-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_top_two [hPre_finite_top_two : Cert.Pre_finite_top_two.Facts] (m : (ℓ : Loc Cert.KernelIdeal.nD Cert.KernelIdeal.τ Cert.KernelIdeal.sig) → Buf (Elt Ideal) ℓ) : Prop :=
  ∀ c : Dev Cert.KernelIdeal.nD,
    (Cert.Pre_finite_top_two.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_top_two [hPre_finite_top_two : Cert.Pre_finite_top_two.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_top_two.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_top_two [hKernelIdeal : Cert.KernelIdeal.Facts] [hPre_finite_top_two : Cert.Pre_finite_top_two.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_top_two m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_top_two [hReferenceIdeal : Cert.ReferenceIdeal.Facts] [hPre_finite_top_two : Cert.Pre_finite_top_two.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_top_two m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "ninth" .f32 0x3DE38E39#32 ((1 / 9 : ℝ) : EReal)
  ∧ IdealRules.named_const.Statement Cert.KernelIdeal.κ "root" .f32 0x3F80002A#32 ((Real.sqrt (2097173 / 2097152) : ℝ) : EReal)
  ∧ IdealRules.named_const.Statement Cert.KernelIdeal.κ "mask" .f32 0xF149F2CA#32 ⊥

def algebraic_KernelIdeal_ReferenceIdeal_pre_finite_top_two [hKernelIdeal : Cert.KernelIdeal.Facts] [hReferenceIdeal : Cert.ReferenceIdeal.Facts] [hPre_finite_top_two : Cert.Pre_finite_top_two.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_top_two m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v432) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_top_two : Cert.Pre_finite_top_two.Facts),
    quiescent_Kernel (hKernel := hKernel)
    ∧ quiescent_KernelIdeal (hKernelIdeal := hKernelIdeal)
    ∧ quiescent_KernelIdeal_pre_finite_top_two (hKernelIdeal := hKernelIdeal) (hPre_finite_top_two := hPre_finite_top_two)
    ∧ quiescent_ReferenceIdeal (hReferenceIdeal := hReferenceIdeal)
    ∧ quiescent_ReferenceIdeal_pre_finite_top_two (hReferenceIdeal := hReferenceIdeal) (hPre_finite_top_two := hPre_finite_top_two)
    ∧ preserves_Kernel_KernelIdeal
    ∧ algebraic_KernelIdeal_ReferenceIdeal_pre_finite_top_two (hKernelIdeal := hKernelIdeal) (hReferenceIdeal := hReferenceIdeal) (hPre_finite_top_two := hPre_finite_top_two)
-- ==== Pre_finite_top_two.lean ====
abbrev S4096x1x28x28 : Shape := ⟨4, ![4096, 1, 28, 28]⟩
abbrev S20x1x3x3 : Shape := ⟨4, ![20, 1, 3, 3]⟩
abbrev S20 : Shape := ⟨1, ![20]⟩
abbrev S10x180 : Shape := ⟨2, ![10, 180]⟩
abbrev S10 : Shape := ⟨1, ![10]⟩
abbrev S45x15x1x5x5 : Shape := ⟨5, ![45, 15, 1, 5, 5]⟩
abbrev S45x15 : Shape := ⟨2, ![45, 15]⟩
abbrev S45x2x60 : Shape := ⟨3, ![45, 2, 60]⟩
abbrev S45x2 : Shape := ⟨2, ![45, 2]⟩
abbrev S_ : Shape := ⟨0, ![]⟩
abbrev S4096x1x9x9 : Shape := ⟨4, ![4096, 1, 9, 9]⟩
abbrev S4096x1x7x7 : Shape := ⟨4, ![4096, 1, 7, 7]⟩
abbrev S20x1x1x1 : Shape := ⟨4, ![20, 1, 1, 1]⟩
abbrev S1x20x1x1 : Shape := ⟨4, ![1, 20, 1, 1]⟩
abbrev S4096x20x7x7 : Shape := ⟨4, ![4096, 20, 7, 7]⟩
abbrev S4096x20x3x3 : Shape := ⟨4, ![4096, 20, 3, 3]⟩
abbrev S4096x180 : Shape := ⟨2, ![4096, 180]⟩
abbrev S180x10 : Shape := ⟨2, ![180, 10]⟩
abbrev S4096x10 : Shape := ⟨2, ![4096, 10]⟩
abbrev S1x10 : Shape := ⟨2, ![1, 10]⟩
abbrev S10x10x10 : Shape := ⟨3, ![10, 10, 10]⟩
abbrev S4096x1x10 : Shape := ⟨3, ![4096, 1, 10]⟩
abbrev S4096x10x1 : Shape := ⟨3, ![4096, 10, 1]⟩
abbrev S4096x10x10 : Shape := ⟨3, ![4096, 10, 10]⟩
abbrev S4096x10x1x10 : Shape := ⟨4, ![4096, 10, 1, 10]⟩
abbrev S4096x1x10x10 : Shape := ⟨4, ![4096, 1, 10, 10]⟩
abbrev S4096x10x10x10 : Shape := ⟨4, ![4096, 10, 10, 10]⟩
abbrev S1x10x10x10 : Shape := ⟨4, ![1, 10, 10, 10]⟩
abbrev S10x10x1 : Shape := ⟨3, ![10, 10, 1]⟩
abbrev S10x10 : Shape := ⟨2, ![10, 10]⟩
abbrev S1x10x10 : Shape := ⟨3, ![1, 10, 10]⟩
abbrev S4096 : Shape := ⟨1, ![4096]⟩

class Facts : Prop where
  bcast_S_S_ : S_.BroadcastsInDim S_ (![] : Fin 0 → Fin S_.rank)
  reduceWindows_S4096x1x28x28_S4096x1x9x9_w1s1p0_0_w1s1p0_0_w3s3p0_0_w3s3p0_0 : S4096x1x28x28.ReduceWindows (![1, 1, 3, 3] : Fin 4 → Nat) ![1, 1, 3, 3] ![0, 0, 0, 0] ![0, 0, 0, 0] S4096x1x9x9
  h_S_ : 0 < S_.numel
  bcast_S_S4096x1x9x9 : S_.BroadcastsInDim S4096x1x9x9 (![] : Fin 0 → Fin S4096x1x9x9.rank)
  slices_S4096x1x9x9_S4096x1x7x7_0_0_0_0 : S4096x1x9x9.Slices ![0, 0, 0, 0] S4096x1x7x7
  slices_S20x1x3x3_S20x1x1x1_0_0_0_0 : S20x1x3x3.Slices ![0, 0, 0, 0] S20x1x1x1
  shapeCasts_S20x1x1x1_S20 : S20x1x1x1.ShapeCasts S20
  shapeCasts_S20_S1x20x1x1 : S20.ShapeCasts S1x20x1x1
  bcast_S4096x1x7x7_S4096x20x7x7_0_1_2_3 : S4096x1x7x7.BroadcastsInDim S4096x20x7x7 (![0, 1, 2, 3] : Fin 4 → Fin S4096x20x7x7.rank)
  bcast_S1x20x1x1_S4096x20x7x7_0_1_2_3 : S1x20x1x1.BroadcastsInDim S4096x20x7x7 (![0, 1, 2, 3] : Fin 4 → Fin S4096x20x7x7.rank)
  slices_S4096x1x9x9_S4096x1x7x7_0_0_0_1 : S4096x1x9x9.Slices ![0, 0, 0, 1] S4096x1x7x7
  slices_S20x1x3x3_S20x1x1x1_0_0_0_1 : S20x1x3x3.Slices ![0, 0, 0, 1] S20x1x1x1
  slices_S4096x1x9x9_S4096x1x7x7_0_0_0_2 : S4096x1x9x9.Slices ![0, 0, 0, 2] S4096x1x7x7
  slices_S20x1x3x3_S20x1x1x1_0_0_0_2 : S20x1x3x3.Slices ![0, 0, 0, 2] S20x1x1x1
  slices_S4096x1x9x9_S4096x1x7x7_0_0_1_0 : S4096x1x9x9.Slices ![0, 0, 1, 0] S4096x1x7x7
  slices_S20x1x3x3_S20x1x1x1_0_0_1_0 : S20x1x3x3.Slices ![0, 0, 1, 0] S20x1x1x1
  slices_S4096x1x9x9_S4096x1x7x7_0_0_1_1 : S4096x1x9x9.Slices ![0, 0, 1, 1] S4096x1x7x7
  slices_S20x1x3x3_S20x1x1x1_0_0_1_1 : S20x1x3x3.Slices ![0, 0, 1, 1] S20x1x1x1
  slices_S4096x1x9x9_S4096x1x7x7_0_0_1_2 : S4096x1x9x9.Slices ![0, 0, 1, 2] S4096x1x7x7
  slices_S20x1x3x3_S20x1x1x1_0_0_1_2 : S20x1x3x3.Slices ![0, 0, 1, 2] S20x1x1x1
  slices_S4096x1x9x9_S4096x1x7x7_0_0_2_0 : S4096x1x9x9.Slices ![0, 0, 2, 0] S4096x1x7x7
  slices_S20x1x3x3_S20x1x1x1_0_0_2_0 : S20x1x3x3.Slices ![0, 0, 2, 0] S20x1x1x1
  slices_S4096x1x9x9_S4096x1x7x7_0_0_2_1 : S4096x1x9x9.Slices ![0, 0, 2, 1] S4096x1x7x7
  slices_S20x1x3x3_S20x1x1x1_0_0_2_1 : S20x1x3x3.Slices ![0, 0, 2, 1] S20x1x1x1
  slices_S4096x1x9x9_S4096x1x7x7_0_0_2_2 : S4096x1x9x9.Slices ![0, 0, 2, 2] S4096x1x7x7
  slices_S20x1x3x3_S20x1x1x1_0_0_2_2 : S20x1x3x3.Slices ![0, 0, 2, 2] S20x1x1x1
  bcast_S_S4096x20x7x7 : S_.BroadcastsInDim S4096x20x7x7 (![] : Fin 0 → Fin S4096x20x7x7.rank)
  reduceWindows_S4096x20x7x7_S4096x20x3x3_w1s1p0_0_w1s1p0_0_w2s2p0_0_w2s2p0_0 : S4096x20x7x7.ReduceWindows (![1, 1, 2, 2] : Fin 4 → Nat) ![1, 1, 2, 2] ![0, 0, 0, 0] ![0, 0, 0, 0] S4096x20x3x3
  shapeCasts_S4096x20x3x3_S4096x180 : S4096x20x3x3.ShapeCasts S4096x180
  transposes_S10x180_S180x10_1_0 : S10x180.Transposes [1, 0] S180x10
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  bcast_S_S4096x1x28x28 : S_.BroadcastsInDim S4096x1x28x28 (![] : Fin 0 → Fin S4096x1x28x28.rank)
  reducesTo_S4096x1x28x28_S_d0_1_2_3 : S4096x1x28x28.ReducesTo [0, 1, 2, 3] S_
  bcast_S_S45x15x1x5x5 : S_.BroadcastsInDim S45x15x1x5x5 (![] : Fin 0 → Fin S45x15x1x5x5.rank)
  reducesTo_S45x15x1x5x5_S_d0_1_2_3_4 : S45x15x1x5x5.ReducesTo [0, 1, 2, 3, 4] S_
  bcast_S_S45x15 : S_.BroadcastsInDim S45x15 (![] : Fin 0 → Fin S45x15.rank)
  reducesTo_S45x15_S_d0_1 : S45x15.ReducesTo [0, 1] S_
  bcast_S_S4096x10 : S_.BroadcastsInDim S4096x10 (![] : Fin 0 → Fin S4096x10.rank)
  reducesTo_S4096x10_S_d0_1 : S4096x10.ReducesTo [0, 1] S_
  bcast_S4096x10_S4096x1x10_0_2 : S4096x10.BroadcastsInDim S4096x1x10 (![0, 2] : Fin 2 → Fin S4096x1x10.rank)
  bcast_S4096x10_S4096x10x1_0_1 : S4096x10.BroadcastsInDim S4096x10x1 (![0, 1] : Fin 2 → Fin S4096x10x1.rank)
  bcast_S4096x1x10_S4096x10x10_0_1_2 : S4096x1x10.BroadcastsInDim S4096x10x10 (![0, 1, 2] : Fin 3 → Fin S4096x10x10.rank)
  bcast_S4096x10x1_S4096x10x10_0_1_2 : S4096x10x1.BroadcastsInDim S4096x10x10 (![0, 1, 2] : Fin 3 → Fin S4096x10x10.rank)
  bcast_S4096x10x10_S4096x10x1x10_0_1_3 : S4096x10x10.BroadcastsInDim S4096x10x1x10 (![0, 1, 3] : Fin 3 → Fin S4096x10x1x10.rank)
  bcast_S4096x10x10_S4096x1x10x10_0_2_3 : S4096x10x10.BroadcastsInDim S4096x1x10x10 (![0, 2, 3] : Fin 3 → Fin S4096x1x10x10.rank)
  bcast_S4096x10x1x10_S4096x10x10x10_0_1_2_3 : S4096x10x1x10.BroadcastsInDim S4096x10x10x10 (![0, 1, 2, 3] : Fin 4 → Fin S4096x10x10x10.rank)
  bcast_S4096x1x10x10_S4096x10x10x10_0_1_2_3 : S4096x1x10x10.BroadcastsInDim S4096x10x10x10 (![0, 1, 2, 3] : Fin 4 → Fin S4096x10x10x10.rank)
  bcast_S10x10x10_S1x10x10x10_1_2_3 : S10x10x10.BroadcastsInDim S1x10x10x10 (![1, 2, 3] : Fin 3 → Fin S1x10x10x10.rank)
  bcast_S1x10x10x10_S4096x10x10x10_0_1_2_3 : S1x10x10x10.BroadcastsInDim S4096x10x10x10 (![0, 1, 2, 3] : Fin 4 → Fin S4096x10x10x10.rank)
  reducesTo_S4096x10x10x10_S4096x10x10_d3 : S4096x10x10x10.ReducesTo [3] S4096x10x10
  slices_S10x10x10_S10x10x1_0_0_0 : S10x10x10.Slices ![0, 0, 0] S10x10x1
  shapeCasts_S10x10x1_S10x10 : S10x10x1.ShapeCasts S10x10
  bcast_S10x10_S1x10x10_1_2 : S10x10.BroadcastsInDim S1x10x10 (![1, 2] : Fin 2 → Fin S1x10x10.rank)
  bcast_S1x10x10_S4096x10x10_0_1_2 : S1x10x10.BroadcastsInDim S4096x10x10 (![0, 1, 2] : Fin 3 → Fin S4096x10x10.rank)
  reducesTo_S4096x10x10_S4096_d1_2 : S4096x10x10.ReducesTo [1, 2] S4096
  reducesTo_S4096_S_d0 : S4096.ReducesTo [0] S_
  dot_S4096x180_S180x10_S4096x10_1_0_0_1_n_n_wf : DotDims.WF S4096x180 S180x10 S4096x10 [1] [0] [0] [1] [] []

variable [Facts]

def dot_S4096x180_S180x10_S4096x10_1_0_0_1_n_n : DotDims S4096x180 S180x10 S4096x10 where
  lhsContracting := [1]
  rhsContracting := [0]
  lhsNonContracting := [0]
  rhsNonContracting := [1]
  lhsBatch := []
  rhsBatch := []
  wf := dot_S4096x180_S180x10_S4096x10_1_0_0_1_n_n_wf
def fn_part6 {F : FTy → Type} [FloatOps F] (main_v115 : IVec S_ 1) (main_v116 : IVec S10x10x10 32) (main_v117 : IVec S10x10x10 32) (main_v126 : IVec S10x10x10 1) (main_v129 : IVec S4096x10x10x10 1) (main_v130 : IVec S4096x10x10x10 1) : IVec S_ 1 :=
  let main_v131 : IVec S4096x10x10x10 1 := andi main_v129 main_v130
  let main_v132 : IVec S1x10x10x10 1 := broadcastInDim S1x10x10x10 ![1, 2, 3] bcast_S10x10x10_S1x10x10x10_1_2_3 main_v126
  let main_v133 : IVec S4096x10x10x10 1 := broadcastInDim S4096x10x10x10 ![0, 1, 2, 3] bcast_S1x10x10x10_S4096x10x10x10_0_1_2_3 main_v132
  let main_v134 : IVec S4096x10x10x10 1 := ori main_v133 main_v131
  let main_c_11 : IVec S_ 1 := constantI S_ 1 1#1
  let main_v135 : IVec S4096x10x10 1 := (fun x v => Host.reduce IntOp.andi x v reducesTo_S4096x10x10x10_S4096x10x10_d3 h_S_) main_v134 main_c_11
  let main_v136 : IVec S10x10x10 1 := cmpi .slt main_v116 main_v117
  let main_v137 : IVec S10x10x1 1 := (extractStridedSlice S10x10x1 ![0, 0, 0] · slices_S10x10x10_S10x10x1_0_0_0) main_v136
  let main_v138 : IVec S10x10 1 := shapeCast S10x10 main_v137 shapeCasts_S10x10x1_S10x10
  let main_v139 : IVec S1x10x10 1 := broadcastInDim S1x10x10 ![1, 2] bcast_S10x10_S1x10x10_1_2 main_v138
  let main_v140 : IVec S4096x10x10 1 := broadcastInDim S4096x10x10 ![0, 1, 2] bcast_S1x10x10_S4096x10x10_0_1_2 main_v139
  let main_v141 : IVec S4096x10x10 1 := andi main_v135 main_v140
  let main_c_12 : IVec S_ 1 := constantI S_ 1 0#1
  let main_v142 : IVec S4096 1 := (fun x v => Host.reduce IntOp.ori x v reducesTo_S4096x10x10_S4096_d1_2 h_S_) main_v141 main_c_12
  let main_c_13 : IVec S_ 1 := constantI S_ 1 1#1
  let main_v143 : IVec S_ 1 := (fun x v => Host.reduce IntOp.andi x v reducesTo_S4096_S_d0 h_S_) main_v142 main_c_13
  let main_v144 : IVec S_ 1 := andi main_v115 main_v143
  main_v144

def fn_part5 {F : FTy → Type} [FloatOps F] (main_v96 : FVec F S4096x10 .f32) (main_v105 : IVec S_ 1) (main_v108 : IVec S45x15 1) (main_c_8 : IVec S_ 1) : IVec S_ 1 :=
  let main_v109 : IVec S_ 1 := (fun x v => Host.reduce IntOp.andi x v reducesTo_S45x15_S_d0_1 h_S_) main_v108 main_c_8
  let main_v110 : IVec S_ 1 := andi main_v105 main_v109
  let main_v111 : FVec F S4096x10 .f32 := Host.absf main_v96
  let main_cst_9 : FVec F S_ .f32 := constant S_ .f32 0x7F800000#32
  let main_v112 : FVec F S4096x10 .f32 := broadcastInDim S4096x10 ![] bcast_S_S4096x10 main_cst_9
  let main_v113 : IVec S4096x10 1 := cmpf .olt main_v111 main_v112
  let main_c_10 : IVec S_ 1 := constantI S_ 1 1#1
  let main_v114 : IVec S_ 1 := (fun x v => Host.reduce IntOp.andi x v reducesTo_S4096x10_S_d0_1 h_S_) main_v113 main_c_10
  let main_v115 : IVec S_ 1 := andi main_v110 main_v114
  let main_v116 : IVec S10x10x10 32 := iotaInDim S10x10x10 32 0
  let main_v117 : IVec S10x10x10 32 := iotaInDim S10x10x10 32 1
  let main_v118 : IVec S10x10x10 32 := iotaInDim S10x10x10 32 2
  let main_v119 : FVec F S4096x1x10 .f32 := broadcastInDim S4096x1x10 ![0, 2] bcast_S4096x10_S4096x1x10_0_2 main_v96
  let main_v120 : FVec F S4096x10x1 .f32 := broadcastInDim S4096x10x1 ![0, 1] bcast_S4096x10_S4096x10x1_0_1 main_v96
  let main_v121 : FVec F S4096x10x10 .f32 := broadcastInDim S4096x10x10 ![0, 1, 2] bcast_S4096x1x10_S4096x10x10_0_1_2 main_v119
  let main_v122 : FVec F S4096x10x10 .f32 := broadcastInDim S4096x10x10 ![0, 1, 2] bcast_S4096x10x1_S4096x10x10_0_1_2 main_v120
  let main_v123 : IVec S4096x10x10 1 := cmpf .olt main_v121 main_v122
  let main_v124 : IVec S10x10x10 1 := cmpi .eq main_v118 main_v116
  let main_v125 : IVec S10x10x10 1 := cmpi .eq main_v118 main_v117
  let main_v126 : IVec S10x10x10 1 := ori main_v124 main_v125
  let main_v127 : IVec S4096x10x1x10 1 := broadcastInDim S4096x10x1x10 ![0, 1, 3] bcast_S4096x10x10_S4096x10x1x10_0_1_3 main_v123
  let main_v128 : IVec S4096x1x10x10 1 := broadcastInDim S4096x1x10x10 ![0, 2, 3] bcast_S4096x10x10_S4096x1x10x10_0_2_3 main_v123
  let main_v129 : IVec S4096x10x10x10 1 := broadcastInDim S4096x10x10x10 ![0, 1, 2, 3] bcast_S4096x10x1x10_S4096x10x10x10_0_1_2_3 main_v127
  let main_v130 : IVec S4096x10x10x10 1 := broadcastInDim S4096x10x10x10 ![0, 1, 2, 3] bcast_S4096x1x10x10_S4096x10x10x10_0_1_2_3 main_v128
  fn_part6 (F := F) main_v115 main_v116 main_v117 main_v126 main_v129 main_v130

def fn_part4 {F : FTy → Type} [FloatOps F] (main_arg0 : FVec F S4096x1x28x28 .f32) (main_arg5 : FVec F S10x180 .f32) (main_arg6 : FVec F S10 .f32) (main_arg7 : FVec F S45x15x1x5x5 .f32) (main_arg9 : FVec F S45x15 .f32) (main_v90 : FVec F S4096x20x3x3 .f32) : IVec S_ 1 :=
  let main_v91 : FVec F S4096x180 .f32 := shapeCast S4096x180 main_v90 shapeCasts_S4096x20x3x3_S4096x180
  let main_v92 : FVec F S180x10 .f32 := (transpose S180x10 [1, 0] · transposes_S10x180_S180x10_1_0) main_arg5
  let main_v93 : FVec F S4096x10 .f32 := (fun l r => Host.dotGeneral dot_S4096x180_S180x10_S4096x10_1_0_0_1_n_n none l r) main_v91 main_v92
  let main_v94 : FVec F S1x10 .f32 := broadcastInDim S1x10 ![1] bcast_S10_S1x10_1 main_arg6
  let main_v95 : FVec F S4096x10 .f32 := broadcastInDim S4096x10 ![0, 1] bcast_S1x10_S4096x10_0_1 main_v94
  let main_v96 : FVec F S4096x10 .f32 := addf main_v93 main_v95
  let main_v97 : FVec F S4096x1x28x28 .f32 := Host.absf main_arg0
  let main_cst_4 : FVec F S_ .f32 := constant S_ .f32 0x7F800000#32
  let main_v98 : FVec F S4096x1x28x28 .f32 := broadcastInDim S4096x1x28x28 ![] bcast_S_S4096x1x28x28 main_cst_4
  let main_v99 : IVec S4096x1x28x28 1 := cmpf .olt main_v97 main_v98
  let main_c : IVec S_ 1 := constantI S_ 1 1#1
  let main_v100 : IVec S_ 1 := (fun x v => Host.reduce IntOp.andi x v reducesTo_S4096x1x28x28_S_d0_1_2_3 h_S_) main_v99 main_c
  let main_v101 : FVec F S45x15x1x5x5 .f32 := Host.absf main_arg7
  let main_cst_5 : FVec F S_ .f32 := constant S_ .f32 0x7F800000#32
  let main_v102 : FVec F S45x15x1x5x5 .f32 := broadcastInDim S45x15x1x5x5 ![] bcast_S_S45x15x1x5x5 main_cst_5
  let main_v103 : IVec S45x15x1x5x5 1 := cmpf .olt main_v101 main_v102
  let main_c_6 : IVec S_ 1 := constantI S_ 1 1#1
  let main_v104 : IVec S_ 1 := (fun x v => Host.reduce IntOp.andi x v reducesTo_S45x15x1x5x5_S_d0_1_2_3_4 h_S_) main_v103 main_c_6
  let main_v105 : IVec S_ 1 := andi main_v100 main_v104
  let main_v106 : FVec F S45x15 .f32 := Host.absf main_arg9
  let main_cst_7 : FVec F S_ .f32 := constant S_ .f32 0x7F800000#32
  let main_v107 : FVec F S45x15 .f32 := broadcastInDim S45x15 ![] bcast_S_S45x15 main_cst_7
  let main_v108 : IVec S45x15 1 := cmpf .olt main_v106 main_v107
  let main_c_8 : IVec S_ 1 := constantI S_ 1 1#1
  fn_part5 (F := F) main_v96 main_v105 main_v108 main_c_8

def fn_part3 {F : FTy → Type} [FloatOps F] (main_arg0 : FVec F S4096x1x28x28 .f32) (main_arg2 : FVec F S20 .f32) (main_arg3 : FVec F S20 .f32) (main_arg4 : FVec F S20 .f32) (main_arg5 : FVec F S10x180 .f32) (main_arg6 : FVec F S10 .f32) (main_arg7 : FVec F S45x15x1x5x5 .f32) (main_arg9 : FVec F S45x15 .f32) (main_v66 : FVec F S4096x20x7x7 .f32) (main_v67 : FVec F S4096x1x7x7 .f32) (main_v69 : FVec F S20 .f32) : IVec S_ 1 :=
  let main_v70 : FVec F S1x20x1x1 .f32 := shapeCast S1x20x1x1 main_v69 shapeCasts_S20_S1x20x1x1
  let main_v71 : FVec F S4096x20x7x7 .f32 := broadcastInDim S4096x20x7x7 ![0, 1, 2, 3] bcast_S4096x1x7x7_S4096x20x7x7_0_1_2_3 main_v67
  let main_v72 : FVec F S4096x20x7x7 .f32 := broadcastInDim S4096x20x7x7 ![0, 1, 2, 3] bcast_S1x20x1x1_S4096x20x7x7_0_1_2_3 main_v70
  let main_v73 : FVec F S4096x20x7x7 .f32 := mulf main_v71 main_v72
  let main_v74 : FVec F S4096x20x7x7 .f32 := addf main_v66 main_v73
  let main_v75 : FVec F S1x20x1x1 .f32 := shapeCast S1x20x1x1 main_arg2 shapeCasts_S20_S1x20x1x1
  let main_v76 : FVec F S4096x20x7x7 .f32 := broadcastInDim S4096x20x7x7 ![0, 1, 2, 3] bcast_S1x20x1x1_S4096x20x7x7_0_1_2_3 main_v75
  let main_v77 : FVec F S4096x20x7x7 .f32 := addf main_v74 main_v76
  let main_cst_1 : FVec F S_ .f32 := constant S_ .f32 0x3F800054#32
  let main_v78 : FVec F S_ .f32 := Host.sqrt main_cst_1
  let main_v79 : FVec F S4096x20x7x7 .f32 := broadcastInDim S4096x20x7x7 ![] bcast_S_S4096x20x7x7 main_v78
  let main_v80 : FVec F S4096x20x7x7 .f32 := Host.divf main_v77 main_v79
  let main_v81 : FVec F S1x20x1x1 .f32 := shapeCast S1x20x1x1 main_arg3 shapeCasts_S20_S1x20x1x1
  let main_v82 : FVec F S4096x20x7x7 .f32 := broadcastInDim S4096x20x7x7 ![0, 1, 2, 3] bcast_S1x20x1x1_S4096x20x7x7_0_1_2_3 main_v81
  let main_v83 : FVec F S4096x20x7x7 .f32 := mulf main_v80 main_v82
  let main_v84 : FVec F S1x20x1x1 .f32 := shapeCast S1x20x1x1 main_arg4 shapeCasts_S20_S1x20x1x1
  let main_v85 : FVec F S4096x20x7x7 .f32 := broadcastInDim S4096x20x7x7 ![0, 1, 2, 3] bcast_S1x20x1x1_S4096x20x7x7_0_1_2_3 main_v84
  let main_v86 : FVec F S4096x20x7x7 .f32 := addf main_v83 main_v85
  let main_cst_2 : FVec F S_ .f32 := constant S_ .f32 0x00000000#32
  let main_v87 : FVec F S4096x20x7x7 .f32 := broadcastInDim S4096x20x7x7 ![] bcast_S_S4096x20x7x7 main_cst_2
  let main_v88 : FVec F S4096x20x7x7 .f32 := maximumf main_v86 main_v87
  let main_cst_3 : FVec F S_ .f32 := constant S_ .f32 0xFF800000#32
  let main_v89 : FVec F S_ .f32 := broadcastInDim S_ ![] bcast_S_S_ main_cst_3
  let main_v90 : FVec F S4096x20x3x3 .f32 := (fun x v => Host.reduceWindow FloatOps.maximumf ![1, 1, 2, 2] ![1, 1, 2, 2] ![0, 0, 0, 0] ![0, 0, 0, 0] x v reduceWindows_S4096x20x7x7_S4096x20x3x3_w1s1p0_0_w1s1p0_0_w2s2p0_0_w2s2p0_0 h_S_) main_v88 main_v89
  fn_part4 (F := F) main_arg0 main_arg5 main_arg6 main_arg7 main_arg9 main_v90

def fn_part2 {F : FTy → Type} [FloatOps F] (main_arg0 : FVec F S4096x1x28x28 .f32) (main_arg1 : FVec F S20x1x3x3 .f32) (main_arg2 : FVec F S20 .f32) (main_arg3 : FVec F S20 .f32) (main_arg4 : FVec F S20 .f32) (main_arg5 : FVec F S10x180 .f32) (main_arg6 : FVec F S10 .f32) (main_arg7 : FVec F S45x15x1x5x5 .f32) (main_arg9 : FVec F S45x15 .f32) (main_v3 : FVec F S4096x1x9x9 .f32) (main_v42 : FVec F S4096x20x7x7 .f32) (main_v43 : FVec F S4096x1x7x7 .f32) (main_v45 : FVec F S20 .f32) : IVec S_ 1 :=
  let main_v46 : FVec F S1x20x1x1 .f32 := shapeCast S1x20x1x1 main_v45 shapeCasts_S20_S1x20x1x1
  let main_v47 : FVec F S4096x20x7x7 .f32 := broadcastInDim S4096x20x7x7 ![0, 1, 2, 3] bcast_S4096x1x7x7_S4096x20x7x7_0_1_2_3 main_v43
  let main_v48 : FVec F S4096x20x7x7 .f32 := broadcastInDim S4096x20x7x7 ![0, 1, 2, 3] bcast_S1x20x1x1_S4096x20x7x7_0_1_2_3 main_v46
  let main_v49 : FVec F S4096x20x7x7 .f32 := mulf main_v47 main_v48
  let main_v50 : FVec F S4096x20x7x7 .f32 := addf main_v42 main_v49
  let main_v51 : FVec F S4096x1x7x7 .f32 := (extractStridedSlice S4096x1x7x7 ![0, 0, 2, 0] · slices_S4096x1x9x9_S4096x1x7x7_0_0_2_0) main_v3
  let main_v52 : FVec F S20x1x1x1 .f32 := (extractStridedSlice S20x1x1x1 ![0, 0, 2, 0] · slices_S20x1x3x3_S20x1x1x1_0_0_2_0) main_arg1
  let main_v53 : FVec F S20 .f32 := shapeCast S20 main_v52 shapeCasts_S20x1x1x1_S20
  let main_v54 : FVec F S1x20x1x1 .f32 := shapeCast S1x20x1x1 main_v53 shapeCasts_S20_S1x20x1x1
  let main_v55 : FVec F S4096x20x7x7 .f32 := broadcastInDim S4096x20x7x7 ![0, 1, 2, 3] bcast_S4096x1x7x7_S4096x20x7x7_0_1_2_3 main_v51
  let main_v56 : FVec F S4096x20x7x7 .f32 := broadcastInDim S4096x20x7x7 ![0, 1, 2, 3] bcast_S1x20x1x1_S4096x20x7x7_0_1_2_3 main_v54
  let main_v57 : FVec F S4096x20x7x7 .f32 := mulf main_v55 main_v56
  let main_v58 : FVec F S4096x20x7x7 .f32 := addf main_v50 main_v57
  let main_v59 : FVec F S4096x1x7x7 .f32 := (extractStridedSlice S4096x1x7x7 ![0, 0, 2, 1] · slices_S4096x1x9x9_S4096x1x7x7_0_0_2_1) main_v3
  let main_v60 : FVec F S20x1x1x1 .f32 := (extractStridedSlice S20x1x1x1 ![0, 0, 2, 1] · slices_S20x1x3x3_S20x1x1x1_0_0_2_1) main_arg1
  let main_v61 : FVec F S20 .f32 := shapeCast S20 main_v60 shapeCasts_S20x1x1x1_S20
  let main_v62 : FVec F S1x20x1x1 .f32 := shapeCast S1x20x1x1 main_v61 shapeCasts_S20_S1x20x1x1
  let main_v63 : FVec F S4096x20x7x7 .f32 := broadcastInDim S4096x20x7x7 ![0, 1, 2, 3] bcast_S4096x1x7x7_S4096x20x7x7_0_1_2_3 main_v59
  let main_v64 : FVec F S4096x20x7x7 .f32 := broadcastInDim S4096x20x7x7 ![0, 1, 2, 3] bcast_S1x20x1x1_S4096x20x7x7_0_1_2_3 main_v62
  let main_v65 : FVec F S4096x20x7x7 .f32 := mulf main_v63 main_v64
  let main_v66 : FVec F S4096x20x7x7 .f32 := addf main_v58 main_v65
  let main_v67 : FVec F S4096x1x7x7 .f32 := (extractStridedSlice S4096x1x7x7 ![0, 0, 2, 2] · slices_S4096x1x9x9_S4096x1x7x7_0_0_2_2) main_v3
  let main_v68 : FVec F S20x1x1x1 .f32 := (extractStridedSlice S20x1x1x1 ![0, 0, 2, 2] · slices_S20x1x3x3_S20x1x1x1_0_0_2_2) main_arg1
  let main_v69 : FVec F S20 .f32 := shapeCast S20 main_v68 shapeCasts_S20x1x1x1_S20
  fn_part3 (F := F) main_arg0 main_arg2 main_arg3 main_arg4 main_arg5 main_arg6 main_arg7 main_arg9 main_v66 main_v67 main_v69

def fn_part1 {F : FTy → Type} [FloatOps F] (main_arg0 : FVec F S4096x1x28x28 .f32) (main_arg1 : FVec F S20x1x3x3 .f32) (main_arg2 : FVec F S20 .f32) (main_arg3 : FVec F S20 .f32) (main_arg4 : FVec F S20 .f32) (main_arg5 : FVec F S10x180 .f32) (main_arg6 : FVec F S10 .f32) (main_arg7 : FVec F S45x15x1x5x5 .f32) (main_arg9 : FVec F S45x15 .f32) (main_v3 : FVec F S4096x1x9x9 .f32) (main_v18 : FVec F S4096x20x7x7 .f32) (main_v19 : FVec F S4096x1x7x7 .f32) (main_v21 : FVec F S20 .f32) : IVec S_ 1 :=
  let main_v22 : FVec F S1x20x1x1 .f32 := shapeCast S1x20x1x1 main_v21 shapeCasts_S20_S1x20x1x1
  let main_v23 : FVec F S4096x20x7x7 .f32 := broadcastInDim S4096x20x7x7 ![0, 1, 2, 3] bcast_S4096x1x7x7_S4096x20x7x7_0_1_2_3 main_v19
  let main_v24 : FVec F S4096x20x7x7 .f32 := broadcastInDim S4096x20x7x7 ![0, 1, 2, 3] bcast_S1x20x1x1_S4096x20x7x7_0_1_2_3 main_v22
  let main_v25 : FVec F S4096x20x7x7 .f32 := mulf main_v23 main_v24
  let main_v26 : FVec F S4096x20x7x7 .f32 := addf main_v18 main_v25
  let main_v27 : FVec F S4096x1x7x7 .f32 := (extractStridedSlice S4096x1x7x7 ![0, 0, 1, 0] · slices_S4096x1x9x9_S4096x1x7x7_0_0_1_0) main_v3
  let main_v28 : FVec F S20x1x1x1 .f32 := (extractStridedSlice S20x1x1x1 ![0, 0, 1, 0] · slices_S20x1x3x3_S20x1x1x1_0_0_1_0) main_arg1
  let main_v29 : FVec F S20 .f32 := shapeCast S20 main_v28 shapeCasts_S20x1x1x1_S20
  let main_v30 : FVec F S1x20x1x1 .f32 := shapeCast S1x20x1x1 main_v29 shapeCasts_S20_S1x20x1x1
  let main_v31 : FVec F S4096x20x7x7 .f32 := broadcastInDim S4096x20x7x7 ![0, 1, 2, 3] bcast_S4096x1x7x7_S4096x20x7x7_0_1_2_3 main_v27
  let main_v32 : FVec F S4096x20x7x7 .f32 := broadcastInDim S4096x20x7x7 ![0, 1, 2, 3] bcast_S1x20x1x1_S4096x20x7x7_0_1_2_3 main_v30
  let main_v33 : FVec F S4096x20x7x7 .f32 := mulf main_v31 main_v32
  let main_v34 : FVec F S4096x20x7x7 .f32 := addf main_v26 main_v33
  let main_v35 : FVec F S4096x1x7x7 .f32 := (extractStridedSlice S4096x1x7x7 ![0, 0, 1, 1] · slices_S4096x1x9x9_S4096x1x7x7_0_0_1_1) main_v3
  let main_v36 : FVec F S20x1x1x1 .f32 := (extractStridedSlice S20x1x1x1 ![0, 0, 1, 1] · slices_S20x1x3x3_S20x1x1x1_0_0_1_1) main_arg1
  let main_v37 : FVec F S20 .f32 := shapeCast S20 main_v36 shapeCasts_S20x1x1x1_S20
  let main_v38 : FVec F S1x20x1x1 .f32 := shapeCast S1x20x1x1 main_v37 shapeCasts_S20_S1x20x1x1
  let main_v39 : FVec F S4096x20x7x7 .f32 := broadcastInDim S4096x20x7x7 ![0, 1, 2, 3] bcast_S4096x1x7x7_S4096x20x7x7_0_1_2_3 main_v35
  let main_v40 : FVec F S4096x20x7x7 .f32 := broadcastInDim S4096x20x7x7 ![0, 1, 2, 3] bcast_S1x20x1x1_S4096x20x7x7_0_1_2_3 main_v38
  let main_v41 : FVec F S4096x20x7x7 .f32 := mulf main_v39 main_v40
  let main_v42 : FVec F S4096x20x7x7 .f32 := addf main_v34 main_v41
  let main_v43 : FVec F S4096x1x7x7 .f32 := (extractStridedSlice S4096x1x7x7 ![0, 0, 1, 2] · slices_S4096x1x9x9_S4096x1x7x7_0_0_1_2) main_v3
  let main_v44 : FVec F S20x1x1x1 .f32 := (extractStridedSlice S20x1x1x1 ![0, 0, 1, 2] · slices_S20x1x3x3_S20x1x1x1_0_0_1_2) main_arg1
  let main_v45 : FVec F S20 .f32 := shapeCast S20 main_v44 shapeCasts_S20x1x1x1_S20
  fn_part2 (F := F) main_arg0 main_arg1 main_arg2 main_arg3 main_arg4 main_arg5 main_arg6 main_arg7 main_arg9 main_v3 main_v42 main_v43 main_v45

def fn {F : FTy → Type} [FloatOps F] (main_arg0 : FVec F S4096x1x28x28 .f32) (main_arg1 : FVec F S20x1x3x3 .f32) (main_arg2 : FVec F S20 .f32) (main_arg3 : FVec F S20 .f32) (main_arg4 : FVec F S20 .f32) (main_arg5 : FVec F S10x180 .f32) (main_arg6 : FVec F S10 .f32) (main_arg7 : FVec F S45x15x1x5x5 .f32) (main_arg8 : FVec F S45x15 .f32) (main_arg9 : FVec F S45x15 .f32) (main_arg10 : FVec F S45x15 .f32) (main_arg11 : FVec F S45x2x60 .f32) (main_arg12 : FVec F S45x2 .f32) : IVec S_ 1 :=
  let main_cst : FVec F S_ .f32 := constant S_ .f32 0x00000000#32
  let main_v0 : FVec F S_ .f32 := broadcastInDim S_ ![] bcast_S_S_ main_cst
  let main_v1 : FVec F S4096x1x9x9 .f32 := (fun x v => Host.reduceWindowAdd ![1, 1, 3, 3] ![1, 1, 3, 3] ![0, 0, 0, 0] ![0, 0, 0, 0] x v reduceWindows_S4096x1x28x28_S4096x1x9x9_w1s1p0_0_w1s1p0_0_w3s3p0_0_w3s3p0_0 h_S_) main_arg0 main_v0
  let main_cst_0 : FVec F S_ .f32 := constant S_ .f32 0x41100000#32
  let main_v2 : FVec F S4096x1x9x9 .f32 := broadcastInDim S4096x1x9x9 ![] bcast_S_S4096x1x9x9 main_cst_0
  let main_v3 : FVec F S4096x1x9x9 .f32 := Host.divf main_v1 main_v2
  let main_v4 : FVec F S4096x1x7x7 .f32 := (extractStridedSlice S4096x1x7x7 ![0, 0, 0, 0] · slices_S4096x1x9x9_S4096x1x7x7_0_0_0_0) main_v3
  let main_v5 : FVec F S20x1x1x1 .f32 := (extractStridedSlice S20x1x1x1 ![0, 0, 0, 0] · slices_S20x1x3x3_S20x1x1x1_0_0_0_0) main_arg1
  let main_v6 : FVec F S20 .f32 := shapeCast S20 main_v5 shapeCasts_S20x1x1x1_S20
  let main_v7 : FVec F S1x20x1x1 .f32 := shapeCast S1x20x1x1 main_v6 shapeCasts_S20_S1x20x1x1
  let main_v8 : FVec F S4096x20x7x7 .f32 := broadcastInDim S4096x20x7x7 ![0, 1, 2, 3] bcast_S4096x1x7x7_S4096x20x7x7_0_1_2_3 main_v4
  let main_v9 : FVec F S4096x20x7x7 .f32 := broadcastInDim S4096x20x7x7 ![0, 1, 2, 3] bcast_S1x20x1x1_S4096x20x7x7_0_1_2_3 main_v7
  let main_v10 : FVec F S4096x20x7x7 .f32 := mulf main_v8 main_v9
  let main_v11 : FVec F S4096x1x7x7 .f32 := (extractStridedSlice S4096x1x7x7 ![0, 0, 0, 1] · slices_S4096x1x9x9_S4096x1x7x7_0_0_0_1) main_v3
  let main_v12 : FVec F S20x1x1x1 .f32 := (extractStridedSlice S20x1x1x1 ![0, 0, 0, 1] · slices_S20x1x3x3_S20x1x1x1_0_0_0_1) main_arg1
  let main_v13 : FVec F S20 .f32 := shapeCast S20 main_v12 shapeCasts_S20x1x1x1_S20
  let main_v14 : FVec F S1x20x1x1 .f32 := shapeCast S1x20x1x1 main_v13 shapeCasts_S20_S1x20x1x1
  let main_v15 : FVec F S4096x20x7x7 .f32 := broadcastInDim S4096x20x7x7 ![0, 1, 2, 3] bcast_S4096x1x7x7_S4096x20x7x7_0_1_2_3 main_v11
  let main_v16 : FVec F S4096x20x7x7 .f32 := broadcastInDim S4096x20x7x7 ![0, 1, 2, 3] bcast_S1x20x1x1_S4096x20x7x7_0_1_2_3 main_v14
  let main_v17 : FVec F S4096x20x7x7 .f32 := mulf main_v15 main_v16
  let main_v18 : FVec F S4096x20x7x7 .f32 := addf main_v10 main_v17
  let main_v19 : FVec F S4096x1x7x7 .f32 := (extractStridedSlice S4096x1x7x7 ![0, 0, 0, 2] · slices_S4096x1x9x9_S4096x1x7x7_0_0_0_2) main_v3
  let main_v20 : FVec F S20x1x1x1 .f32 := (extractStridedSlice S20x1x1x1 ![0, 0, 0, 2] · slices_S20x1x3x3_S20x1x1x1_0_0_0_2) main_arg1
  let main_v21 : FVec F S20 .f32 := shapeCast S20 main_v20 shapeCasts_S20x1x1x1_S20
  fn_part1 (F := F) main_arg0 main_arg1 main_arg2 main_arg3 main_arg4 main_arg5 main_arg6 main_arg7 main_arg9 main_v3 main_v18 main_v19 main_v21
-- ==== Kernel.lean ====
abbrev S4096x1x28x28 : Shape := ⟨4, ![4096, 1, 28, 28]⟩
abbrev S20x1x3x3 : Shape := ⟨4, ![20, 1, 3, 3]⟩
abbrev S20 : Shape := ⟨1, ![20]⟩
abbrev S10x180 : Shape := ⟨2, ![10, 180]⟩
abbrev S10 : Shape := ⟨1, ![10]⟩
abbrev S45x15x1x5x5 : Shape := ⟨5, ![45, 15, 1, 5, 5]⟩
abbrev S45x15 : Shape := ⟨2, ![45, 15]⟩
abbrev S45x2x60 : Shape := ⟨3, ![45, 2, 60]⟩
abbrev S45x2 : Shape := ⟨2, ![45, 2]⟩
abbrev S4x81x1x9x9 : Shape := ⟨5, ![4, 81, 1, 9, 9]⟩
abbrev S4x81x1x1x25x4 : Shape := ⟨6, ![4, 81, 1, 1, 25, 4]⟩
abbrev S45x1x45x1 : Shape := ⟨4, ![45, 1, 45, 1]⟩
abbrev S4096x28x28 : Shape := ⟨3, ![4096, 28, 28]⟩
abbrev S4096x27x27 : Shape := ⟨3, ![4096, 27, 27]⟩
abbrev S4096x9x3x9x3 : Shape := ⟨5, ![4096, 9, 3, 9, 3]⟩
abbrev S4096x3x3x9x9 : Shape := ⟨5, ![4096, 3, 3, 9, 9]⟩
abbrev S4096x9x81 : Shape := ⟨3, ![4096, 9, 81]⟩
abbrev S20x9 : Shape := ⟨2, ![20, 9]⟩
abbrev S4x81x20x9x9 : Shape := ⟨5, ![4, 81, 20, 9, 9]⟩
abbrev S_ : Shape := ⟨0, ![]⟩
abbrev S4x81x20x9 : Shape := ⟨4, ![4, 81, 20, 9]⟩
abbrev S4x81x180 : Shape := ⟨3, ![4, 81, 180]⟩
abbrev S180 : Shape := ⟨1, ![180]⟩
abbrev S1x180 : Shape := ⟨2, ![1, 180]⟩
abbrev S180x10 : Shape := ⟨2, ![180, 10]⟩
abbrev S1x10 : Shape := ⟨2, ![1, 10]⟩
abbrev S45x15x25 : Shape := ⟨3, ![45, 15, 25]⟩
abbrev S45x15x1 : Shape := ⟨3, ![45, 15, 1]⟩
abbrev S4x81x45x15x25x4 : Shape := ⟨6, ![4, 81, 45, 15, 25, 4]⟩
abbrev S4x81x45x15x4 : Shape := ⟨5, ![4, 81, 45, 15, 4]⟩
abbrev S4x81x2700 : Shape := ⟨3, ![4, 81, 2700]⟩
abbrev S675 : Shape := ⟨1, ![675]⟩
abbrev S675x4 : Shape := ⟨2, ![675, 4]⟩
abbrev S2700 : Shape := ⟨1, ![2700]⟩
abbrev S1x2700 : Shape := ⟨2, ![1, 2700]⟩
abbrev S45x60x2 : Shape := ⟨3, ![45, 60, 2]⟩
abbrev S45x60x45x2 : Shape := ⟨4, ![45, 60, 45, 2]⟩
abbrev S2700x90 : Shape := ⟨2, ![2700, 90]⟩
abbrev S1x90 : Shape := ⟨2, ![1, 90]⟩
abbrev S4096x10 : Shape := ⟨2, ![4096, 10]⟩
abbrev S4096x2 : Shape := ⟨2, ![4096, 2]⟩
abbrev S256x9x81 : Shape := ⟨3, ![256, 9, 81]⟩
abbrev S256x10 : Shape := ⟨2, ![256, 10]⟩
abbrev S256x2 : Shape := ⟨2, ![256, 2]⟩
abbrev S256x1x81 : Shape := ⟨3, ![256, 1, 81]⟩
abbrev S256x81 : Shape := ⟨2, ![256, 81]⟩
abbrev S1x81x180 : Shape := ⟨3, ![1, 81, 180]⟩
abbrev S81x180 : Shape := ⟨2, ![81, 180]⟩
abbrev S256x180 : Shape := ⟨2, ![256, 180]⟩
abbrev S256 : Shape := ⟨1, ![256]⟩
abbrev S256x1 : Shape := ⟨2, ![256, 1]⟩
abbrev S1x81x2700 : Shape := ⟨3, ![1, 81, 2700]⟩
abbrev S81x2700 : Shape := ⟨2, ![81, 2700]⟩
abbrev S256x2700 : Shape := ⟨2, ![256, 2700]⟩
abbrev S256x90 : Shape := ⟨2, ![256, 90]⟩

abbrev nBuf : Space → Nat
  | .hbm => 72
  | .vmem => 18
  | .smem => 0
  | _ => 0

abbrev bufTy : (tb : Table) → Fin (tcTables nBuf tb) → BufTy
  | .hbm, ⟨0, _⟩ => ⟨S4096x1x28x28, .f32⟩
  | .hbm, ⟨1, _⟩ => ⟨S20x1x3x3, .f32⟩
  | .hbm, ⟨2, _⟩ => ⟨S20, .f32⟩
  | .hbm, ⟨3, _⟩ => ⟨S20, .f32⟩
  | .hbm, ⟨4, _⟩ => ⟨S20, .f32⟩
  | .hbm, ⟨5, _⟩ => ⟨S10x180, .f32⟩
  | .hbm, ⟨6, _⟩ => ⟨S10, .f32⟩
  | .hbm, ⟨7, _⟩ => ⟨S45x15x1x5x5, .f32⟩
  | .hbm, ⟨8, _⟩ => ⟨S45x15, .f32⟩
  | .hbm, ⟨9, _⟩ => ⟨S45x15, .f32⟩
  | .hbm, ⟨10, _⟩ => ⟨S45x15, .f32⟩
  | .hbm, ⟨11, _⟩ => ⟨S45x2x60, .f32⟩
  | .hbm, ⟨12, _⟩ => ⟨S45x2, .f32⟩
  | .hbm, ⟨13, _⟩ => ⟨S4x81x1x9x9, .f32⟩
  | .hbm, ⟨14, _⟩ => ⟨S4x81x1x1x25x4, .f32⟩
  | .hbm, ⟨15, _⟩ => ⟨S45x1x45x1, .f32⟩
  | .hbm, ⟨16, _⟩ => ⟨S4096x28x28, .f32⟩
  | .hbm, ⟨17, _⟩ => ⟨S4096x27x27, .f32⟩
  | .hbm, ⟨18, _⟩ => ⟨S4096x9x3x9x3, .f32⟩
  | .hbm, ⟨19, _⟩ => ⟨S4096x3x3x9x9, .f32⟩
  | .hbm, ⟨20, _⟩ => ⟨S4096x9x81, .f32⟩
  | .hbm, ⟨21, _⟩ => ⟨S20x9, .f32⟩
  | .hbm, ⟨22, _⟩ => ⟨S4x81x20x9x9, .f32⟩
  | .hbm, ⟨23, _⟩ => ⟨S4x81x20x9x9, .f32⟩
  | .hbm, ⟨24, _⟩ => ⟨S4x81x20x9x9, .f32⟩
  | .hbm, ⟨25, _⟩ => ⟨S_, .f32⟩
  | .hbm, ⟨26, _⟩ => ⟨S4x81x20x9, .f32⟩
  | .hbm, ⟨27, _⟩ => ⟨S4x81x180, .f32⟩
  | .hbm, ⟨28, _⟩ => ⟨S4x81x180, .bf16⟩
  | .hbm, ⟨29, _⟩ => ⟨S20x9, .f32⟩
  | .hbm, ⟨30, _⟩ => ⟨S180, .f32⟩
  | .hbm, ⟨31, _⟩ => ⟨S1x180, .f32⟩
  | .hbm, ⟨32, _⟩ => ⟨S20x9, .f32⟩
  | .hbm, ⟨33, _⟩ => ⟨S180, .f32⟩
  | .hbm, ⟨34, _⟩ => ⟨S1x180, .f32⟩
  | .hbm, ⟨35, _⟩ => ⟨S20x9, .f32⟩
  | .hbm, ⟨36, _⟩ => ⟨S180, .f32⟩
  | .hbm, ⟨37, _⟩ => ⟨S1x180, .f32⟩
  | .hbm, ⟨38, _⟩ => ⟨S180x10, .f32⟩
  | .hbm, ⟨39, _⟩ => ⟨S180x10, .bf16⟩
  | .hbm, ⟨40, _⟩ => ⟨S1x10, .f32⟩
  | .hbm, ⟨41, _⟩ => ⟨S_, .f32⟩
  | .hbm, ⟨42, _⟩ => ⟨S_, .f32⟩
  | .hbm, ⟨43, _⟩ => ⟨S45x15, .f32⟩
  | .hbm, ⟨44, _⟩ => ⟨S45x15, .f32⟩
  | .hbm, ⟨45, _⟩ => ⟨S45x15x25, .f32⟩
  | .hbm, ⟨46, _⟩ => ⟨S45x15x1, .f32⟩
  | .hbm, ⟨47, _⟩ => ⟨S45x15x25, .f32⟩
  | .hbm, ⟨48, _⟩ => ⟨S45x15x25, .f32⟩
  | .hbm, ⟨49, _⟩ => ⟨S4x81x45x15x25x4, .f32⟩
  | .hbm, ⟨50, _⟩ => ⟨S4x81x45x15x25x4, .f32⟩
  | .hbm, ⟨51, _⟩ => ⟨S4x81x45x15x25x4, .f32⟩
  | .hbm, ⟨52, _⟩ => ⟨S_, .f32⟩
  | .hbm, ⟨53, _⟩ => ⟨S4x81x45x15x4, .f32⟩
  | .hbm, ⟨54, _⟩ => ⟨S4x81x2700, .f32⟩
  | .hbm, ⟨55, _⟩ => ⟨S4x81x2700, .bf16⟩
  | .hbm, ⟨56, _⟩ => ⟨S45x15, .f32⟩
  | .hbm, ⟨57, _⟩ => ⟨S45x15, .f32⟩
  | .hbm, ⟨58, _⟩ => ⟨S675, .f32⟩
  | .hbm, ⟨59, _⟩ => ⟨S675x4, .f32⟩
  | .hbm, ⟨60, _⟩ => ⟨S2700, .f32⟩
  | .hbm, ⟨61, _⟩ => ⟨S1x2700, .f32⟩
  | .hbm, ⟨62, _⟩ => ⟨S45x60x2, .f32⟩
  | .hbm, ⟨63, _⟩ => ⟨S45x60x45x2, .f32⟩
  | .hbm, ⟨64, _⟩ => ⟨S45x60x45x2, .f32⟩
  | .hbm, ⟨65, _⟩ => ⟨S45x60x45x2, .f32⟩
  | .hbm, ⟨66, _⟩ => ⟨S2700x90, .f32⟩
  | .hbm, ⟨67, _⟩ => ⟨S2700x90, .bf16⟩
  | .hbm, ⟨68, _⟩ => ⟨S1x90, .f32⟩
  | .hbm, ⟨69, _⟩ => ⟨S4096x10, .f32⟩
  | .hbm, ⟨70, _⟩ => ⟨S4096x10, .f32⟩
  | .hbm, ⟨71, _⟩ => ⟨S4096x2, .i32⟩
  | .local _ .vmem, ⟨0, _⟩ => ⟨S256x9x81, .f32⟩
  | .local _ .vmem, ⟨1, _⟩ => ⟨S256x9x81, .f32⟩
  | .local _ .vmem, ⟨2, _⟩ => ⟨S4x81x180, .bf16⟩
  | .local _ .vmem, ⟨3, _⟩ => ⟨S1x180, .f32⟩
  | .local _ .vmem, ⟨4, _⟩ => ⟨S1x180, .f32⟩
  | .local _ .vmem, ⟨5, _⟩ => ⟨S1x180, .f32⟩
  | .local _ .vmem, ⟨6, _⟩ => ⟨S180x10, .bf16⟩
  | .local _ .vmem, ⟨7, _⟩ => ⟨S1x10, .f32⟩
  | .local _ .vmem, ⟨8, _⟩ => ⟨S4x81x2700, .bf16⟩
  | .local _ .vmem, ⟨9, _⟩ => ⟨S1x2700, .f32⟩
  | .local _ .vmem, ⟨10, _⟩ => ⟨S2700x90, .bf16⟩
  | .local _ .vmem, ⟨11, _⟩ => ⟨S1x90, .f32⟩
  | .local _ .vmem, ⟨12, _⟩ => ⟨S256x10, .f32⟩
  | .local _ .vmem, ⟨13, _⟩ => ⟨S256x10, .f32⟩
  | .local _ .vmem, ⟨14, _⟩ => ⟨S256x10, .f32⟩
  | .local _ .vmem, ⟨15, _⟩ => ⟨S256x10, .f32⟩
  | .local _ .vmem, ⟨16, _⟩ => ⟨S256x2, .i32⟩
  | .local _ .vmem, ⟨17, _⟩ => ⟨S256x2, .i32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50_0 : Ref sig .tc := ⟨.hbm, 69, rfl⟩
abbrev main_v50_1 : Ref sig .tc := ⟨.hbm, 70, rfl⟩
abbrev main_v50_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x81x180 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x180 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x180 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x180 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S180x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x81x2700 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2700 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2700x90 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x90 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "mask" => some ⊥
  | "ninth" => some ((1 / 9 : ℝ) : EReal)
  | "root" => some ((Real.sqrt (2097173 / 2097152) : ℝ) : EReal)
  | _ => none
-- ==== ReferenceIdeal.lean ====
abbrev S4096x1x28x28 : Shape := ⟨4, ![4096, 1, 28, 28]⟩
abbrev S20x1x3x3 : Shape := ⟨4, ![20, 1, 3, 3]⟩
abbrev S20 : Shape := ⟨1, ![20]⟩
abbrev S10x180 : Shape := ⟨2, ![10, 180]⟩
abbrev S10 : Shape := ⟨1, ![10]⟩
abbrev S45x15x1x5x5 : Shape := ⟨5, ![45, 15, 1, 5, 5]⟩
abbrev S45x15 : Shape := ⟨2, ![45, 15]⟩
abbrev S45x2x60 : Shape := ⟨3, ![45, 2, 60]⟩
abbrev S45x2 : Shape := ⟨2, ![45, 2]⟩
abbrev S_ : Shape := ⟨0, ![]⟩
abbrev S4096x1x9x9 : Shape := ⟨4, ![4096, 1, 9, 9]⟩
abbrev S4096x1x7x7 : Shape := ⟨4, ![4096, 1, 7, 7]⟩
abbrev S20x1x1x1 : Shape := ⟨4, ![20, 1, 1, 1]⟩
abbrev S1x20x1x1 : Shape := ⟨4, ![1, 20, 1, 1]⟩
abbrev S4096x20x7x7 : Shape := ⟨4, ![4096, 20, 7, 7]⟩
abbrev S4096x20x3x3 : Shape := ⟨4, ![4096, 20, 3, 3]⟩
abbrev S4096x180 : Shape := ⟨2, ![4096, 180]⟩
abbrev S180x10 : Shape := ⟨2, ![180, 10]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩
abbrev S4096x2 : Shape := ⟨2, ![4096, 2]⟩
abbrev S10x10 : Shape := ⟨2, ![10, 10]⟩
abbrev S100 : Shape := ⟨1, ![100]⟩
abbrev S4096x15x1x5x5 : Shape := ⟨5, ![4096, 15, 1, 5, 5]⟩
abbrev S4096x15 : Shape := ⟨2, ![4096, 15]⟩
abbrev S4096x2x60 : Shape := ⟨3, ![4096, 2, 60]⟩
abbrev S4096x1x5x5 : Shape := ⟨4, ![4096, 1, 5, 5]⟩
abbrev S4096x15x1x1x1 : Shape := ⟨5, ![4096, 15, 1, 1, 1]⟩
abbrev S4096x15x1x1 : Shape := ⟨4, ![4096, 15, 1, 1]⟩
abbrev S4096x15x5x5 : Shape := ⟨4, ![4096, 15, 5, 5]⟩
abbrev S4096x15x2x2 : Shape := ⟨4, ![4096, 15, 2, 2]⟩
abbrev S4096x60 : Shape := ⟨2, ![4096, 60]⟩

abbrev nBuf : Space → Nat
  | .hbm => 517
  | .vmem => 0
  | .smem => 0
  | _ => 0

abbrev hbmTy0_0 (i : Nat) : BufTy := match i % 128 with
  | 0 => ⟨S4096x1x28x28, .f32⟩
  | 1 => ⟨S20x1x3x3, .f32⟩
  | 2 => ⟨S20, .f32⟩
  | 3 => ⟨S20, .f32⟩
  | 4 => ⟨S20, .f32⟩
  | 5 => ⟨S10x180, .f32⟩
  | 6 => ⟨S10, .f32⟩
  | 7 => ⟨S45x15x1x5x5, .f32⟩
  | 8 => ⟨S45x15, .f32⟩
  | 9 => ⟨S45x15, .f32⟩
  | 10 => ⟨S45x15, .f32⟩
  | 11 => ⟨S45x2x60, .f32⟩
  | 12 => ⟨S45x2, .f32⟩
  | 13 => ⟨S_, .f32⟩
  | 14 => ⟨S_, .f32⟩
  | 15 => ⟨S4096x1x9x9, .f32⟩
  | 16 => ⟨S_, .f32⟩
  | 17 => ⟨S4096x1x9x9, .f32⟩
  | 18 => ⟨S4096x1x9x9, .f32⟩
  | 19 => ⟨S4096x1x7x7, .f32⟩
  | 20 => ⟨S20x1x1x1, .f32⟩
  | 21 => ⟨S20, .f32⟩
  | 22 => ⟨S1x20x1x1, .f32⟩
  | 23 => ⟨S4096x20x7x7, .f32⟩
  | 24 => ⟨S4096x20x7x7, .f32⟩
  | 25 => ⟨S4096x20x7x7, .f32⟩
  | 26 => ⟨S4096x1x7x7, .f32⟩
  | 27 => ⟨S20x1x1x1, .f32⟩
  | 28 => ⟨S20, .f32⟩
  | 29 => ⟨S1x20x1x1, .f32⟩
  | 30 => ⟨S4096x20x7x7, .f32⟩
  | 31 => ⟨S4096x20x7x7, .f32⟩
  | 32 => ⟨S4096x20x7x7, .f32⟩
  | 33 => ⟨S4096x20x7x7, .f32⟩
  | 34 => ⟨S4096x1x7x7, .f32⟩
  | 35 => ⟨S20x1x1x1, .f32⟩
  | 36 => ⟨S20, .f32⟩
  | 37 => ⟨S1x20x1x1, .f32⟩
  | 38 => ⟨S4096x20x7x7, .f32⟩
  | 39 => ⟨S4096x20x7x7, .f32⟩
  | 40 => ⟨S4096x20x7x7, .f32⟩
  | 41 => ⟨S4096x20x7x7, .f32⟩
  | 42 => ⟨S4096x1x7x7, .f32⟩
  | 43 => ⟨S20x1x1x1, .f32⟩
  | 44 => ⟨S20, .f32⟩
  | 45 => ⟨S1x20x1x1, .f32⟩
  | 46 => ⟨S4096x20x7x7, .f32⟩
  | 47 => ⟨S4096x20x7x7, .f32⟩
  | 48 => ⟨S4096x20x7x7, .f32⟩
  | 49 => ⟨S4096x20x7x7, .f32⟩
  | 50 => ⟨S4096x1x7x7, .f32⟩
  | 51 => ⟨S20x1x1x1, .f32⟩
  | 52 => ⟨S20, .f32⟩
  | 53 => ⟨S1x20x1x1, .f32⟩
  | 54 => ⟨S4096x20x7x7, .f32⟩
  | 55 => ⟨S4096x20x7x7, .f32⟩
  | 56 => ⟨S4096x20x7x7, .f32⟩
  | 57 => ⟨S4096x20x7x7, .f32⟩
  | 58 => ⟨S4096x1x7x7, .f32⟩
  | 59 => ⟨S20x1x1x1, .f32⟩
  | 60 => ⟨S20, .f32⟩
  | 61 => ⟨S1x20x1x1, .f32⟩
  | 62 => ⟨S4096x20x7x7, .f32⟩
  | 63 => ⟨S4096x20x7x7, .f32⟩
  | 64 => ⟨S4096x20x7x7, .f32⟩
  | 65 => ⟨S4096x20x7x7, .f32⟩
  | 66 => ⟨S4096x1x7x7, .f32⟩
  | 67 => ⟨S20x1x1x1, .f32⟩
  | 68 => ⟨S20, .f32⟩
  | 69 => ⟨S1x20x1x1, .f32⟩
  | 70 => ⟨S4096x20x7x7, .f32⟩
  | 71 => ⟨S4096x20x7x7, .f32⟩
  | 72 => ⟨S4096x20x7x7, .f32⟩
  | 73 => ⟨S4096x20x7x7, .f32⟩
  | 74 => ⟨S4096x1x7x7, .f32⟩
  | 75 => ⟨S20x1x1x1, .f32⟩
  | 76 => ⟨S20, .f32⟩
  | 77 => ⟨S1x20x1x1, .f32⟩
  | 78 => ⟨S4096x20x7x7, .f32⟩
  | 79 => ⟨S4096x20x7x7, .f32⟩
  | 80 => ⟨S4096x20x7x7, .f32⟩
  | 81 => ⟨S4096x20x7x7, .f32⟩
  | 82 => ⟨S4096x1x7x7, .f32⟩
  | 83 => ⟨S20x1x1x1, .f32⟩
  | 84 => ⟨S20, .f32⟩
  | 85 => ⟨S1x20x1x1, .f32⟩
  | 86 => ⟨S4096x20x7x7, .f32⟩
  | 87 => ⟨S4096x20x7x7, .f32⟩
  | 88 => ⟨S4096x20x7x7, .f32⟩
  | 89 => ⟨S4096x20x7x7, .f32⟩
  | 90 => ⟨S1x20x1x1, .f32⟩
  | 91 => ⟨S4096x20x7x7, .f32⟩
  | 92 => ⟨S4096x20x7x7, .f32⟩
  | 93 => ⟨S_, .f32⟩
  | 94 => ⟨S_, .f32⟩
  | 95 => ⟨S4096x20x7x7, .f32⟩
  | 96 => ⟨S4096x20x7x7, .f32⟩
  | 97 => ⟨S1x20x1x1, .f32⟩
  | 98 => ⟨S4096x20x7x7, .f32⟩
  | 99 => ⟨S4096x20x7x7, .f32⟩
  | 100 => ⟨S1x20x1x1, .f32⟩
  | 101 => ⟨S4096x20x7x7, .f32⟩
  | 102 => ⟨S4096x20x7x7, .f32⟩
  | 103 => ⟨S_, .f32⟩
  | 104 => ⟨S4096x20x7x7, .f32⟩
  | 105 => ⟨S4096x20x7x7, .f32⟩
  | 106 => ⟨S_, .f32⟩
  | 107 => ⟨S_, .f32⟩
  | 108 => ⟨S4096x20x3x3, .f32⟩
  | 109 => ⟨S4096x180, .f32⟩
  | 110 => ⟨S180x10, .f32⟩
  | 111 => ⟨S4096x10, .f32⟩
  | 112 => ⟨S1x10, .f32⟩
  | 113 => ⟨S4096x10, .f32⟩
  | 114 => ⟨S4096x10, .f32⟩
  | 115 => ⟨S_, .f32⟩
  | 116 => ⟨S4096, .f32⟩
  | 117 => ⟨S_, .f32⟩
  | 118 => ⟨S4096, .f32⟩
  | 119 => ⟨S4096, .f32⟩
  | 120 => ⟨S4096x1, .f32⟩
  | 121 => ⟨S4096x10, .f32⟩
  | 122 => ⟨S4096x10, .f32⟩
  | 123 => ⟨S4096x10, .f32⟩
  | 124 => ⟨S_, .f32⟩
  | 125 => ⟨S4096, .f32⟩
  | 126 => ⟨S4096x1, .f32⟩
  | 127 => ⟨S4096x1, .f32⟩
  | _ => ⟨S4096x1x28x28, .f32⟩

abbrev hbmTy0_1 (i : Nat) : BufTy := match i % 128 with
  | 0 => ⟨S4096x10, .f32⟩
  | 1 => ⟨S4096x10, .f32⟩
  | 2 => ⟨S4096x10, .i32⟩
  | 3 => ⟨S4096x10, .f32⟩
  | 4 => ⟨S4096x10, .i32⟩
  | 5 => ⟨S4096x2, .i32⟩
  | 6 => ⟨S4096x2, .i32⟩
  | 7 => ⟨S10x10, .i32⟩
  | 8 => ⟨S10x10, .i32⟩
  | 9 => ⟨S10x10, .i1⟩
  | 10 => ⟨S10x10, .i32⟩
  | 11 => ⟨S100, .i32⟩
  | 12 => ⟨S_, .i32⟩
  | 13 => ⟨S_, .i32⟩
  | 14 => ⟨S100, .i32⟩
  | 15 => ⟨S10x10, .i32⟩
  | 16 => ⟨S10x10, .i1⟩
  | 17 => ⟨S_, .i32⟩
  | 18 => ⟨S10x10, .i32⟩
  | 19 => ⟨S10x10, .i32⟩
  | 20 => ⟨S_, .i32⟩
  | 21 => ⟨S_, .i32⟩
  | 22 => ⟨S10x10, .i32⟩
  | 23 => ⟨S10x10, .i32⟩
  | 24 => ⟨S4096x1, .i32⟩
  | 25 => ⟨S4096, .i32⟩
  | 26 => ⟨S4096x1, .i32⟩
  | 27 => ⟨S4096, .i32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S4096x1, .i32⟩
  | 44 => ⟨S4096x2, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S4096x15x1x5x5, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S4096x15, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S4096x15, .f32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S4096x15, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S4096x2x60, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096x2, .f32⟩
  | 100 => ⟨S_, .f32⟩
  | 101 => ⟨S_, .f32⟩
  | 102 => ⟨S4096x1x9x9, .f32⟩
  | 103 => ⟨S_, .f32⟩
  | 104 => ⟨S4096x1x9x9, .f32⟩
  | 105 => ⟨S4096x1x9x9, .f32⟩
  | 106 => ⟨S4096x1x5x5, .f32⟩
  | 107 => ⟨S4096x15x1x1x1, .f32⟩
  | 108 => ⟨S4096x15, .f32⟩
  | 109 => ⟨S4096x15x1x1, .f32⟩
  | 110 => ⟨S4096x15x5x5, .f32⟩
  | 111 => ⟨S4096x15x5x5, .f32⟩
  | 112 => ⟨S4096x15x5x5, .f32⟩
  | 113 => ⟨S4096x1x5x5, .f32⟩
  | 114 => ⟨S4096x15x1x1x1, .f32⟩
  | 115 => ⟨S4096x15, .f32⟩
  | 116 => ⟨S4096x15x1x1, .f32⟩
  | 117 => ⟨S4096x15x5x5, .f32⟩
  | 118 => ⟨S4096x15x5x5, .f32⟩
  | 119 => ⟨S4096x15x5x5, .f32⟩
  | 120 => ⟨S4096x15x5x5, .f32⟩
  | 121 => ⟨S4096x1x5x5, .f32⟩
  | 122 => ⟨S4096x15x1x1x1, .f32⟩
  | 123 => ⟨S4096x15, .f32⟩
  | 124 => ⟨S4096x15x1x1, .f32⟩
  | 125 => ⟨S4096x15x5x5, .f32⟩
  | 126 => ⟨S4096x15x5x5, .f32⟩
  | 127 => ⟨S4096x15x5x5, .f32⟩
  | _ => ⟨S4096x1x28x28, .f32⟩

abbrev hbmTy0_2 (i : Nat) : BufTy := match i % 128 with
  | 0 => ⟨S4096x15x5x5, .f32⟩
  | 1 => ⟨S4096x1x5x5, .f32⟩
  | 2 => ⟨S4096x15x1x1x1, .f32⟩
  | 3 => ⟨S4096x15, .f32⟩
  | 4 => ⟨S4096x15x1x1, .f32⟩
  | 5 => ⟨S4096x15x5x5, .f32⟩
  | 6 => ⟨S4096x15x5x5, .f32⟩
  | 7 => ⟨S4096x15x5x5, .f32⟩
  | 8 => ⟨S4096x15x5x5, .f32⟩
  | 9 => ⟨S4096x1x5x5, .f32⟩
  | 10 => ⟨S4096x15x1x1x1, .f32⟩
  | 11 => ⟨S4096x15, .f32⟩
  | 12 => ⟨S4096x15x1x1, .f32⟩
  | 13 => ⟨S4096x15x5x5, .f32⟩
  | 14 => ⟨S4096x15x5x5, .f32⟩
  | 15 => ⟨S4096x15x5x5, .f32⟩
  | 16 => ⟨S4096x15x5x5, .f32⟩
  | 17 => ⟨S4096x1x5x5, .f32⟩
  | 18 => ⟨S4096x15x1x1x1, .f32⟩
  | 19 => ⟨S4096x15, .f32⟩
  | 20 => ⟨S4096x15x1x1, .f32⟩
  | 21 => ⟨S4096x15x5x5, .f32⟩
  | 22 => ⟨S4096x15x5x5, .f32⟩
  | 23 => ⟨S4096x15x5x5, .f32⟩
  | 24 => ⟨S4096x15x5x5, .f32⟩
  | 25 => ⟨S4096x1x5x5, .f32⟩
  | 26 => ⟨S4096x15x1x1x1, .f32⟩
  | 27 => ⟨S4096x15, .f32⟩
  | 28 => ⟨S4096x15x1x1, .f32⟩
  | 29 => ⟨S4096x15x5x5, .f32⟩
  | 30 => ⟨S4096x15x5x5, .f32⟩
  | 31 => ⟨S4096x15x5x5, .f32⟩
  | 32 => ⟨S4096x15x5x5, .f32⟩
  | 33 => ⟨S4096x1x5x5, .f32⟩
  | 34 => ⟨S4096x15x1x1x1, .f32⟩
  | 35 => ⟨S4096x15, .f32⟩
  | 36 => ⟨S4096x15x1x1, .f32⟩
  | 37 => ⟨S4096x15x5x5, .f32⟩
  | 38 => ⟨S4096x15x5x5, .f32⟩
  | 39 => ⟨S4096x15x5x5, .f32⟩
  | 40 => ⟨S4096x15x5x5, .f32⟩
  | 41 => ⟨S4096x1x5x5, .f32⟩
  | 42 => ⟨S4096x15x1x1x1, .f32⟩
  | 43 => ⟨S4096x15, .f32⟩
  | 44 => ⟨S4096x15x1x1, .f32⟩
  | 45 => ⟨S4096x15x5x5, .f32⟩
  | 46 => ⟨S4096x15x5x5, .f32⟩
  | 47 => ⟨S4096x15x5x5, .f32⟩
  | 48 => ⟨S4096x15x5x5, .f32⟩
  | 49 => ⟨S4096x1x5x5, .f32⟩
  | 50 => ⟨S4096x15x1x1x1, .f32⟩
  | 51 => ⟨S4096x15, .f32⟩
  | 52 => ⟨S4096x15x1x1, .f32⟩
  | 53 => ⟨S4096x15x5x5, .f32⟩
  | 54 => ⟨S4096x15x5x5, .f32⟩
  | 55 => ⟨S4096x15x5x5, .f32⟩
  | 56 => ⟨S4096x15x5x5, .f32⟩
  | 57 => ⟨S4096x1x5x5, .f32⟩
  | 58 => ⟨S4096x15x1x1x1, .f32⟩
  | 59 => ⟨S4096x15, .f32⟩
  | 60 => ⟨S4096x15x1x1, .f32⟩
  | 61 => ⟨S4096x15x5x5, .f32⟩
  | 62 => ⟨S4096x15x5x5, .f32⟩
  | 63 => ⟨S4096x15x5x5, .f32⟩
  | 64 => ⟨S4096x15x5x5, .f32⟩
  | 65 => ⟨S4096x1x5x5, .f32⟩
  | 66 => ⟨S4096x15x1x1x1, .f32⟩
  | 67 => ⟨S4096x15, .f32⟩
  | 68 => ⟨S4096x15x1x1, .f32⟩
  | 69 => ⟨S4096x15x5x5, .f32⟩
  | 70 => ⟨S4096x15x5x5, .f32⟩
  | 71 => ⟨S4096x15x5x5, .f32⟩
  | 72 => ⟨S4096x15x5x5, .f32⟩
  | 73 => ⟨S4096x1x5x5, .f32⟩
  | 74 => ⟨S4096x15x1x1x1, .f32⟩
  | 75 => ⟨S4096x15, .f32⟩
  | 76 => ⟨S4096x15x1x1, .f32⟩
  | 77 => ⟨S4096x15x5x5, .f32⟩
  | 78 => ⟨S4096x15x5x5, .f32⟩
  | 79 => ⟨S4096x15x5x5, .f32⟩
  | 80 => ⟨S4096x15x5x5, .f32⟩
  | 81 => ⟨S4096x1x5x5, .f32⟩
  | 82 => ⟨S4096x15x1x1x1, .f32⟩
  | 83 => ⟨S4096x15, .f32⟩
  | 84 => ⟨S4096x15x1x1, .f32⟩
  | 85 => ⟨S4096x15x5x5, .f32⟩
  | 86 => ⟨S4096x15x5x5, .f32⟩
  | 87 => ⟨S4096x15x5x5, .f32⟩
  | 88 => ⟨S4096x15x5x5, .f32⟩
  | 89 => ⟨S4096x1x5x5, .f32⟩
  | 90 => ⟨S4096x15x1x1x1, .f32⟩
  | 91 => ⟨S4096x15, .f32⟩
  | 92 => ⟨S4096x15x1x1, .f32⟩
  | 93 => ⟨S4096x15x5x5, .f32⟩
  | 94 => ⟨S4096x15x5x5, .f32⟩
  | 95 => ⟨S4096x15x5x5, .f32⟩
  | 96 => ⟨S4096x15x5x5, .f32⟩
  | 97 => ⟨S4096x1x5x5, .f32⟩
  | 98 => ⟨S4096x15x1x1x1, .f32⟩
  | 99 => ⟨S4096x15, .f32⟩
  | 100 => ⟨S4096x15x1x1, .f32⟩
  | 101 => ⟨S4096x15x5x5, .f32⟩
  | 102 => ⟨S4096x15x5x5, .f32⟩
  | 103 => ⟨S4096x15x5x5, .f32⟩
  | 104 => ⟨S4096x15x5x5, .f32⟩
  | 105 => ⟨S4096x1x5x5, .f32⟩
  | 106 => ⟨S4096x15x1x1x1, .f32⟩
  | 107 => ⟨S4096x15, .f32⟩
  | 108 => ⟨S4096x15x1x1, .f32⟩
  | 109 => ⟨S4096x15x5x5, .f32⟩
  | 110 => ⟨S4096x15x5x5, .f32⟩
  | 111 => ⟨S4096x15x5x5, .f32⟩
  | 112 => ⟨S4096x15x5x5, .f32⟩
  | 113 => ⟨S4096x1x5x5, .f32⟩
  | 114 => ⟨S4096x15x1x1x1, .f32⟩
  | 115 => ⟨S4096x15, .f32⟩
  | 116 => ⟨S4096x15x1x1, .f32⟩
  | 117 => ⟨S4096x15x5x5, .f32⟩
  | 118 => ⟨S4096x15x5x5, .f32⟩
  | 119 => ⟨S4096x15x5x5, .f32⟩
  | 120 => ⟨S4096x15x5x5, .f32⟩
  | 121 => ⟨S4096x1x5x5, .f32⟩
  | 122 => ⟨S4096x15x1x1x1, .f32⟩
  | 123 => ⟨S4096x15, .f32⟩
  | 124 => ⟨S4096x15x1x1, .f32⟩
  | 125 => ⟨S4096x15x5x5, .f32⟩
  | 126 => ⟨S4096x15x5x5, .f32⟩
  | 127 => ⟨S4096x15x5x5, .f32⟩
  | _ => ⟨S4096x1x28x28, .f32⟩

abbrev hbmTy0_3 (i : Nat) : BufTy := match i % 128 with
  | 0 => ⟨S4096x15x5x5, .f32⟩
  | 1 => ⟨S4096x1x5x5, .f32⟩
  | 2 => ⟨S4096x15x1x1x1, .f32⟩
  | 3 => ⟨S4096x15, .f32⟩
  | 4 => ⟨S4096x15x1x1, .f32⟩
  | 5 => ⟨S4096x15x5x5, .f32⟩
  | 6 => ⟨S4096x15x5x5, .f32⟩
  | 7 => ⟨S4096x15x5x5, .f32⟩
  | 8 => ⟨S4096x15x5x5, .f32⟩
  | 9 => ⟨S4096x1x5x5, .f32⟩
  | 10 => ⟨S4096x15x1x1x1, .f32⟩
  | 11 => ⟨S4096x15, .f32⟩
  | 12 => ⟨S4096x15x1x1, .f32⟩
  | 13 => ⟨S4096x15x5x5, .f32⟩
  | 14 => ⟨S4096x15x5x5, .f32⟩
  | 15 => ⟨S4096x15x5x5, .f32⟩
  | 16 => ⟨S4096x15x5x5, .f32⟩
  | 17 => ⟨S4096x1x5x5, .f32⟩
  | 18 => ⟨S4096x15x1x1x1, .f32⟩
  | 19 => ⟨S4096x15, .f32⟩
  | 20 => ⟨S4096x15x1x1, .f32⟩
  | 21 => ⟨S4096x15x5x5, .f32⟩
  | 22 => ⟨S4096x15x5x5, .f32⟩
  | 23 => ⟨S4096x15x5x5, .f32⟩
  | 24 => ⟨S4096x15x5x5, .f32⟩
  | 25 => ⟨S4096x1x5x5, .f32⟩
  | 26 => ⟨S4096x15x1x1x1, .f32⟩
  | 27 => ⟨S4096x15, .f32⟩
  | 28 => ⟨S4096x15x1x1, .f32⟩
  | 29 => ⟨S4096x15x5x5, .f32⟩
  | 30 => ⟨S4096x15x5x5, .f32⟩
  | 31 => ⟨S4096x15x5x5, .f32⟩
  | 32 => ⟨S4096x15x5x5, .f32⟩
  | 33 => ⟨S4096x1x5x5, .f32⟩
  | 34 => ⟨S4096x15x1x1x1, .f32⟩
  | 35 => ⟨S4096x15, .f32⟩
  | 36 => ⟨S4096x15x1x1, .f32⟩
  | 37 => ⟨S4096x15x5x5, .f32⟩
  | 38 => ⟨S4096x15x5x5, .f32⟩
  | 39 => ⟨S4096x15x5x5, .f32⟩
  | 40 => ⟨S4096x15x5x5, .f32⟩
  | 41 => ⟨S4096x1x5x5, .f32⟩
  | 42 => ⟨S4096x15x1x1x1, .f32⟩
  | 43 => ⟨S4096x15, .f32⟩
  | 44 => ⟨S4096x15x1x1, .f32⟩
  | 45 => ⟨S4096x15x5x5, .f32⟩
  | 46 => ⟨S4096x15x5x5, .f32⟩
  | 47 => ⟨S4096x15x5x5, .f32⟩
  | 48 => ⟨S4096x15x5x5, .f32⟩
  | 49 => ⟨S4096x15x1x1, .f32⟩
  | 50 => ⟨S4096x15x5x5, .f32⟩
  | 51 => ⟨S4096x15x5x5, .f32⟩
  | 52 => ⟨S_, .f32⟩
  | 53 => ⟨S_, .f32⟩
  | 54 => ⟨S4096x15x5x5, .f32⟩
  | 55 => ⟨S4096x15x5x5, .f32⟩
  | 56 => ⟨S4096x15x1x1, .f32⟩
  | 57 => ⟨S4096x15x5x5, .f32⟩
  | 58 => ⟨S4096x15x5x5, .f32⟩
  | 59 => ⟨S4096x15x1x1, .f32⟩
  | 60 => ⟨S4096x15x5x5, .f32⟩
  | 61 => ⟨S4096x15x5x5, .f32⟩
  | 62 => ⟨S_, .f32⟩
  | 63 => ⟨S4096x15x5x5, .f32⟩
  | 64 => ⟨S4096x15x5x5, .f32⟩
  | 65 => ⟨S_, .f32⟩
  | 66 => ⟨S_, .f32⟩
  | 67 => ⟨S4096x15x2x2, .f32⟩
  | 68 => ⟨S4096x60, .f32⟩
  | 69 => ⟨S4096x2, .f32⟩
  | 70 => ⟨S4096x2, .f32⟩
  | 71 => ⟨S_, .f32⟩
  | 72 => ⟨S4096x10, .f32⟩
  | 73 => ⟨S4096, .i32⟩
  | 74 => ⟨S4096x1, .i32⟩
  | 75 => ⟨S4096, .i32⟩
  | 76 => ⟨S4096x1, .f32⟩
  | 77 => ⟨S4096, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x1, .i32⟩
  | 94 => ⟨S4096x2, .i32⟩
  | 95 => ⟨S4096x10, .f32⟩
  | 96 => ⟨S4096x1, .i32⟩
  | 97 => ⟨S4096, .i32⟩
  | 98 => ⟨S4096x1, .f32⟩
  | 99 => ⟨S4096, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x1, .i32⟩
  | 116 => ⟨S4096x2, .i32⟩
  | 117 => ⟨S4096x10, .f32⟩
  | 118 => ⟨S_, .f32⟩
  | 119 => ⟨S4096, .f32⟩
  | 120 => ⟨S_, .f32⟩
  | 121 => ⟨S4096, .f32⟩
  | 122 => ⟨S4096, .f32⟩
  | 123 => ⟨S4096x1, .f32⟩
  | 124 => ⟨S4096x10, .f32⟩
  | 125 => ⟨S4096x10, .f32⟩
  | 126 => ⟨S4096x10, .f32⟩
  | 127 => ⟨S_, .f32⟩
  | _ => ⟨S4096x1x28x28, .f32⟩

abbrev hbmTy0_4 (i : Nat) : BufTy := match i % 128 with
  | 0 => ⟨S4096, .f32⟩
  | 1 => ⟨S4096x1, .f32⟩
  | 2 => ⟨S4096x1, .f32⟩
  | 3 => ⟨S4096x10, .f32⟩
  | 4 => ⟨S4096x10, .f32⟩
  | _ => ⟨S4096x1x28x28, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x1x28x28, .f32⟩

abbrev bufTy : (tb : Table) → Fin (tcTables nBuf tb) → BufTy
  | .hbm, ⟨i, _⟩ => hbmTy i
  | _, _ => ⟨S4096x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_1 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_2 : Ref sig .tc := ⟨.hbm, 103, rfl⟩
abbrev main_v87 : Ref sig .tc := ⟨.hbm, 104, rfl⟩
abbrev main_v88 : Ref sig .tc := ⟨.hbm, 105, rfl⟩
abbrev main_cst_3 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_call0_cst : Ref sig .tc := ⟨.hbm, 115, rfl⟩
abbrev main_call0_v0 : Ref sig .tc := ⟨.hbm, 116, rfl⟩
abbrev main_call0_cst_0 : Ref sig .tc := ⟨.hbm, 117, rfl⟩
abbrev main_call0_v1 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_call0_v5 : Ref sig .tc := ⟨.hbm, 122, rfl⟩
abbrev main_call0_v6 : Ref sig .tc := ⟨.hbm, 123, rfl⟩
abbrev main_call0_cst_1 : Ref sig .tc := ⟨.hbm, 124, rfl⟩
abbrev main_call0_v7 : Ref sig .tc := ⟨.hbm, 125, rfl⟩
abbrev main_call0_v8 : Ref sig .tc := ⟨.hbm, 126, rfl⟩
abbrev main_call0_v9 : Ref sig .tc := ⟨.hbm, 127, rfl⟩
abbrev main_call0_v10 : Ref sig .tc := ⟨.hbm, 128, rfl⟩
abbrev main_v97 : Ref sig .tc := ⟨.hbm, 129, rfl⟩
abbrev main_call1_v0 : Ref sig .tc := ⟨.hbm, 130, rfl⟩
abbrev main_call1_v1_0 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_call3_call0_c : Ref sig .tc := ⟨.hbm, 140, rfl⟩
abbrev main_call3_call0_v0 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c : Ref sig .tc := ⟨.hbm, 145, rfl⟩
abbrev main_v109 : Ref sig .tc := ⟨.hbm, 146, rfl⟩
abbrev main_v110 : Ref sig .tc := ⟨.hbm, 147, rfl⟩
abbrev main_c_4 : Ref sig .tc := ⟨.hbm, 148, rfl⟩
abbrev main_call4_v0 : Ref sig .tc := ⟨.hbm, 149, rfl⟩
abbrev main_call4_v1 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_5 : Ref sig .tc := ⟨.hbm, 156, rfl⟩
abbrev main_v116 : Ref sig .tc := ⟨.hbm, 157, rfl⟩
abbrev main_v117 : Ref sig .tc := ⟨.hbm, 158, rfl⟩
abbrev main_c_6 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_7 : Ref sig .tc := ⟨.hbm, 163, rfl⟩
abbrev main_v121 : Ref sig .tc := ⟨.hbm, 164, rfl⟩
abbrev main_v122 : Ref sig .tc := ⟨.hbm, 165, rfl⟩
abbrev main_c_8 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_9 : Ref sig .tc := ⟨.hbm, 174, rfl⟩
abbrev main_v130 : Ref sig .tc := ⟨.hbm, 175, rfl⟩
abbrev main_v131 : Ref sig .tc := ⟨.hbm, 176, rfl⟩
abbrev main_c_10 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_11 : Ref sig .tc := ⟨.hbm, 183, rfl⟩
abbrev main_v137 : Ref sig .tc := ⟨.hbm, 184, rfl⟩
abbrev main_v138 : Ref sig .tc := ⟨.hbm, 185, rfl⟩
abbrev main_c_12 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_13 : Ref sig .tc := ⟨.hbm, 192, rfl⟩
abbrev main_v144 : Ref sig .tc := ⟨.hbm, 193, rfl⟩
abbrev main_v145 : Ref sig .tc := ⟨.hbm, 194, rfl⟩
abbrev main_c_14 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_15 : Ref sig .tc := ⟨.hbm, 201, rfl⟩
abbrev main_v151 : Ref sig .tc := ⟨.hbm, 202, rfl⟩
abbrev main_v152 : Ref sig .tc := ⟨.hbm, 203, rfl⟩
abbrev main_c_16 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_17 : Ref sig .tc := ⟨.hbm, 210, rfl⟩
abbrev main_v158 : Ref sig .tc := ⟨.hbm, 211, rfl⟩
abbrev main_v159 : Ref sig .tc := ⟨.hbm, 212, rfl⟩
abbrev main_c_18 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_19 : Ref sig .tc := ⟨.hbm, 219, rfl⟩
abbrev main_v165 : Ref sig .tc := ⟨.hbm, 220, rfl⟩
abbrev main_v166 : Ref sig .tc := ⟨.hbm, 221, rfl⟩
abbrev main_c_20 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_21 : Ref sig .tc := ⟨.hbm, 228, rfl⟩
abbrev main_v172 : Ref sig .tc := ⟨.hbm, 229, rfl⟩
abbrev main_v173 : Ref sig .tc := ⟨.hbm, 230, rfl⟩
abbrev main_cst_22 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_v310 : Ref sig .tc := ⟨.hbm, 368, rfl⟩
abbrev main_v311 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_v319 : Ref sig .tc := ⟨.hbm, 377, rfl⟩
abbrev main_v320 : Ref sig .tc := ⟨.hbm, 378, rfl⟩
abbrev main_v321 : Ref sig .tc := ⟨.hbm, 379, rfl⟩
abbrev main_v322 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_v342 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩
abbrev main_v372 : Ref sig .tc := ⟨.hbm, 430, rfl⟩
abbrev main_v373 : Ref sig .tc := ⟨.hbm, 431, rfl⟩
abbrev main_v374 : Ref sig .tc := ⟨.hbm, 432, rfl⟩
abbrev main_v375 : Ref sig .tc := ⟨.hbm, 433, rfl⟩
abbrev main_v376 : Ref sig .tc := ⟨.hbm, 434, rfl⟩
abbrev main_v377 : Ref sig .tc := ⟨.hbm, 435, rfl⟩
abbrev main_cst_23 : Ref sig .tc := ⟨.hbm, 436, rfl⟩
abbrev main_v378 : Ref sig .tc := ⟨.hbm, 437, rfl⟩
abbrev main_v379 : Ref sig .tc := ⟨.hbm, 438, rfl⟩
abbrev main_v380 : Ref sig .tc := ⟨.hbm, 439, rfl⟩
abbrev main_v381 : Ref sig .tc := ⟨.hbm, 440, rfl⟩
abbrev main_v382 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_cst_24 : Ref sig .tc := ⟨.hbm, 446, rfl⟩
abbrev main_v387 : Ref sig .tc := ⟨.hbm, 447, rfl⟩
abbrev main_v388 : Ref sig .tc := ⟨.hbm, 448, rfl⟩
abbrev main_cst_25 : Ref sig .tc := ⟨.hbm, 449, rfl⟩
abbrev main_v389 : Ref sig .tc := ⟨.hbm, 450, rfl⟩
abbrev main_v390 : Ref sig .tc := ⟨.hbm, 451, rfl⟩
abbrev main_v391 : Ref sig .tc := ⟨.hbm, 452, rfl⟩
abbrev main_v392 : Ref sig .tc := ⟨.hbm, 453, rfl⟩
abbrev main_v393 : Ref sig .tc := ⟨.hbm, 454, rfl⟩
abbrev main_cst_26 : Ref sig .tc := ⟨.hbm, 455, rfl⟩
abbrev main_v394 : Ref sig .tc := ⟨.hbm, 456, rfl⟩
abbrev main_v395 : Ref sig .tc := ⟨.hbm, 457, rfl⟩
abbrev main_v396 : Ref sig .tc := ⟨.hbm, 458, rfl⟩
abbrev main_v397 : Ref sig .tc := ⟨.hbm, 459, rfl⟩
abbrev main_v398 : Ref sig .tc := ⟨.hbm, 460, rfl⟩
abbrev main_v399 : Ref sig .tc := ⟨.hbm, 461, rfl⟩
abbrev main_c_27 : Ref sig .tc := ⟨.hbm, 462, rfl⟩
abbrev main_v400 : Ref sig .tc := ⟨.hbm, 463, rfl⟩
abbrev main_v401 : Ref sig .tc := ⟨.hbm, 464, rfl⟩
abbrev main_c_28 : Ref sig .tc := ⟨.hbm, 465, rfl⟩
abbrev main_v402 : Ref sig .tc := ⟨.hbm, 466, rfl⟩
abbrev main_v403 : Ref sig .tc := ⟨.hbm, 467, rfl⟩
abbrev main_v404 : Ref sig .tc := ⟨.hbm, 468, rfl⟩
abbrev main_c_29 : Ref sig .tc := ⟨.hbm, 469, rfl⟩
abbrev main_v405 : Ref sig .tc := ⟨.hbm, 470, rfl⟩
abbrev main_v406 : Ref sig .tc := ⟨.hbm, 471, rfl⟩
abbrev main_c_30 : Ref sig .tc := ⟨.hbm, 472, rfl⟩
abbrev main_v407 : Ref sig .tc := ⟨.hbm, 473, rfl⟩
abbrev main_v408 : Ref sig .tc := ⟨.hbm, 474, rfl⟩
abbrev main_v409 : Ref sig .tc := ⟨.hbm, 475, rfl⟩
abbrev main_v410 : Ref sig .tc := ⟨.hbm, 476, rfl⟩
abbrev main_v411 : Ref sig .tc := ⟨.hbm, 477, rfl⟩
abbrev main_v412 : Ref sig .tc := ⟨.hbm, 478, rfl⟩
abbrev main_v413 : Ref sig .tc := ⟨.hbm, 479, rfl⟩
abbrev main_v414 : Ref sig .tc := ⟨.hbm, 480, rfl⟩
abbrev main_v415 : Ref sig .tc := ⟨.hbm, 481, rfl⟩
abbrev main_v416 : Ref sig .tc := ⟨.hbm, 482, rfl⟩
abbrev main_v417 : Ref sig .tc := ⟨.hbm, 483, rfl⟩
abbrev main_c_31 : Ref sig .tc := ⟨.hbm, 484, rfl⟩
abbrev main_v418 : Ref sig .tc := ⟨.hbm, 485, rfl⟩
abbrev main_v419 : Ref sig .tc := ⟨.hbm, 486, rfl⟩
abbrev main_c_32 : Ref sig .tc := ⟨.hbm, 487, rfl⟩
abbrev main_v420 : Ref sig .tc := ⟨.hbm, 488, rfl⟩
abbrev main_v421 : Ref sig .tc := ⟨.hbm, 489, rfl⟩
abbrev main_v422 : Ref sig .tc := ⟨.hbm, 490, rfl⟩
abbrev main_c_33 : Ref sig .tc := ⟨.hbm, 491, rfl⟩
abbrev main_v423 : Ref sig .tc := ⟨.hbm, 492, rfl⟩
abbrev main_v424 : Ref sig .tc := ⟨.hbm, 493, rfl⟩
abbrev main_c_34 : Ref sig .tc := ⟨.hbm, 494, rfl⟩
abbrev main_v425 : Ref sig .tc := ⟨.hbm, 495, rfl⟩
abbrev main_v426 : Ref sig .tc := ⟨.hbm, 496, rfl⟩
abbrev main_v427 : Ref sig .tc := ⟨.hbm, 497, rfl⟩
abbrev main_v428 : Ref sig .tc := ⟨.hbm, 498, rfl⟩
abbrev main_v429 : Ref sig .tc := ⟨.hbm, 499, rfl⟩
abbrev main_v430 : Ref sig .tc := ⟨.hbm, 500, rfl⟩
abbrev main_v431 : Ref sig .tc := ⟨.hbm, 501, rfl⟩
abbrev main_call5_cst : Ref sig .tc := ⟨.hbm, 502, rfl⟩
abbrev main_call5_v0 : Ref sig .tc := ⟨.hbm, 503, rfl⟩
abbrev main_call5_cst_0 : Ref sig .tc := ⟨.hbm, 504, rfl⟩
abbrev main_call5_v1 : Ref sig .tc := ⟨.hbm, 505, rfl⟩
abbrev main_call5_v2 : Ref sig .tc := ⟨.hbm, 506, rfl⟩
abbrev main_call5_v3 : Ref sig .tc := ⟨.hbm, 507, rfl⟩
abbrev main_call5_v4 : Ref sig .tc := ⟨.hbm, 508, rfl⟩
abbrev main_call5_v5 : Ref sig .tc := ⟨.hbm, 509, rfl⟩
abbrev main_call5_v6 : Ref sig .tc := ⟨.hbm, 510, rfl⟩
abbrev main_call5_cst_1 : Ref sig .tc := ⟨.hbm, 511, rfl⟩
abbrev main_call5_v7 : Ref sig .tc := ⟨.hbm, 512, rfl⟩
abbrev main_call5_v8 : Ref sig .tc := ⟨.hbm, 513, rfl⟩
abbrev main_call5_v9 : Ref sig .tc := ⟨.hbm, 514, rfl⟩
abbrev main_call5_v10 : Ref sig .tc := ⟨.hbm, 515, rfl⟩
abbrev main_v432 : Ref sig .tc := ⟨.hbm, 516, rfl⟩

abbrev nD : Nat := 1
abbrev τ : Topo := Topo.v7x

variable {F : FTy → Type} [FloatOps F]
-- ==== Proof.Frames.lean ====
/- The frames of the three programs, and the named constants. The two kernels' frames are the generated ones; the
   reference's is its generated run, weakened to its arguments, since it declares no semaphore. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_top_two
public import Idealize.ShloMosaic.Lib.Quiescent

@[expose] public section

noncomputable section

open Idealize.ShloMosaic Idealize.SL.Sem

namespace Cert.Proof

/-- The kernel ends with its arguments as they were and its counters at zero. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- The idealized kernel does so under the precondition too. -/
theorem frame_ideal_pre : Cert.quiescent_KernelIdeal_pre_finite_top_two := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The reference does so under the precondition too. -/
theorem frame_reference_pre : Cert.quiescent_ReferenceIdeal_pre_finite_top_two := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The three constants that the kernel rounds are the named values' roundings. -/
theorem preserves : Cert.preserves_Kernel_KernelIdeal :=
  ⟨IdealRules.named_const.statement Cert.KernelIdeal.κ "ninth" .f32 _ _ rfl,
   IdealRules.named_const.statement Cert.KernelIdeal.κ "root" .f32 _ _ rfl,
   IdealRules.named_const.statement Cert.KernelIdeal.κ "mask" .f32 _ _ rfl⟩

end Cert.Proof

end
-- ==== Proof.Spec.lean ====
/- What both programs compute, one example at a time, over the extended reals. -/
module

public import Idealize.ShloMosaic.PureOps.Ideal
public import Idealize.ShloMosaic.PureOps.Ideal.Laws

@[expose] public section

noncomputable section

namespace Cert.Spec

open Idealize.ShloMosaic

/-- The square root of the batch normalisation's `1 + ε`. -/
def root : EReal := ((Real.sqrt (2097173 / 2097152) : ℝ) : EReal)

/-- The 3 × 3 average of the image at pooled pixel `(i, j)`. -/
def pool (x : Fin 28 → Fin 28 → EReal) (i j : Fin 9) : EReal :=
  (∑ k : Fin 9, x ⟨3 * i.val + k.val / 3, by omega⟩ ⟨3 * j.val + k.val % 3, by omega⟩) * ((1 / 9 : ℝ) : EReal)

/-- The 3 × 3 filter `w` at pixel `(y, z)`. -/
def conv3 (P : Fin 9 → Fin 9 → EReal) (w : Fin 3 → Fin 3 → EReal) (y z : Fin 7) : EReal :=
  ∑ k : Fin 9, P ⟨y.val + k.val / 3, by omega⟩ ⟨z.val + k.val % 3, by omega⟩ * w ⟨k.val / 3, by omega⟩ ⟨k.val % 3, by omega⟩

/-- The 5 × 5 filter `w` at pixel `(y, z)`. -/
def conv5 (P : Fin 9 → Fin 9 → EReal) (w : Fin 5 → Fin 5 → EReal) (y z : Fin 5) : EReal :=
  ∑ k : Fin 25, P ⟨y.val + k.val / 5, by omega⟩ ⟨z.val + k.val % 5, by omega⟩ * w ⟨k.val / 5, by omega⟩ ⟨k.val % 5, by omega⟩

/-- The batch normalisation at evaluation. -/
def bn (c g b : EReal) : EReal := Ideal.div c root * g + b

/-- The largest of four, then the positive part. -/
def top4 (a : Fin 4 → EReal) : EReal := max (max (max (max (a 0) (a 1)) (a 2)) (a 3)) 0

/-- Feature `(i, j)` of a channel of stage 1. -/
def feat1 (P : Fin 9 → Fin 9 → EReal) (w : Fin 3 → Fin 3 → EReal) (cb g bb : EReal) (i j : Fin 3) : EReal :=
  top4 fun t => bn (conv3 P w ⟨2 * i.val + t.val / 2, by omega⟩ ⟨2 * j.val + t.val % 2, by omega⟩ + cb) g bb

/-- Feature `(i, j)` of a channel of stage 2. -/
def feat2 (P : Fin 9 → Fin 9 → EReal) (w : Fin 5 → Fin 5 → EReal) (cb g bb : EReal) (i j : Fin 2) : EReal :=
  top4 fun t => bn (conv5 P w ⟨2 * i.val + t.val / 2, by omega⟩ ⟨2 * j.val + t.val % 2, by omega⟩ + cb) g bb

/-- Feature `f` of stage 1. -/
def feats1 (P : Fin 9 → Fin 9 → EReal) (w : Fin 20 → Fin 3 → Fin 3 → EReal) (cb g bb : Fin 20 → EReal) (f : Fin 180) : EReal :=
  feat1 P (w ⟨f.val / 9, by omega⟩) (cb ⟨f.val / 9, by omega⟩) (g ⟨f.val / 9, by omega⟩) (bb ⟨f.val / 9, by omega⟩)
    ⟨f.val % 9 / 3, by omega⟩ ⟨f.val % 3, by omega⟩

/-- Feature `f` of stage 2. -/
def feats2 (P : Fin 9 → Fin 9 → EReal) (w : Fin 15 → Fin 5 → Fin 5 → EReal) (cb g bb : Fin 15 → EReal) (f : Fin 60) : EReal :=
  feat2 P (w ⟨f.val / 4, by omega⟩) (cb ⟨f.val / 4, by omega⟩) (g ⟨f.val / 4, by omega⟩) (bb ⟨f.val / 4, by omega⟩)
    ⟨f.val % 4 / 2, by omega⟩ ⟨f.val % 2, by omega⟩

/-- Logit of stage 1 with the class's weights `fw` and bias `fb`. -/
def logit1 (P : Fin 9 → Fin 9 → EReal) (w : Fin 20 → Fin 3 → Fin 3 → EReal) (cb g bb : Fin 20 → EReal)
    (fw : Fin 180 → EReal) (fb : EReal) : EReal :=
  (∑ f : Fin 180, feats1 P w cb g bb f * fw f) + fb

/-- Logit of stage 2 of one expert. -/
def logit2 (P : Fin 9 → Fin 9 → EReal) (w : Fin 15 → Fin 5 → Fin 5 → EReal) (cb g bb : Fin 15 → EReal)
    (fw : Fin 60 → EReal) (fb : EReal) : EReal :=
  (∑ f : Fin 60, feats2 P w cb g bb f * fw f) + fb

/-- A sum over pixels of a one-hot filter placed by an injective map is the sum over the filter's taps. -/
theorem sum_place {n k : ℕ} (p : Fin n → EReal) (w : Fin k → EReal) (f : Fin k → Fin n) (hf : Function.Injective f)
    (T : Fin n → Fin k → EReal) (hT : ∀ r u, T r u = if r = f u then 1 else 0) :
    ∑ r : Fin n, p r * ∑ u : Fin k, T r u * w u = ∑ u : Fin k, p (f u) * w u := by
  have h1 : ∀ r : Fin n, p r * ∑ u : Fin k, T r u * w u = ∑ u : Fin k, if r = f u then p r * w u else 0 := by
    intro r
    by_cases h : ∃ u, r = f u
    · obtain ⟨u, rfl⟩ := h
      have e : ∀ v : Fin k, f u = f v ↔ u = v := fun v => hf.eq_iff
      simp only [hT, e, ite_mul, one_mul, zero_mul, Finset.sum_ite_eq, Finset.mem_univ, if_true]
    · have e : ∀ v : Fin k, ¬ r = f v := fun v hv => h ⟨v, hv⟩
      simp [hT, e]
  simp only [h1]
  rw [Finset.sum_comm]
  simp [Finset.sum_ite_eq']

end Cert.Spec
-- ==== Proof.Math.lean ====
/- The arithmetic of the two sides: the two best classes, the logarithm of the softmax, the second stage's products. -/
module

public import proofs.«01_k».proof.Proof.Spec
public import Idealize.ShloMosaic.Lib.SortFacts
public import Idealize.ShloMosaic.Lib.SortNet.Extract

@[expose] public section

noncomputable section

namespace Cert.Spec

open Idealize.ShloMosaic

/-- `p` before `q`, and every other class is below both. -/
def Dom (s : Fin 10 → EReal) (p q : Fin 10) : Prop := p < q ∧ ∀ k, k = p ∨ k = q ∨ (s k < s p ∧ s k < s q)

/-- The maximum of a row is the entry that is above all. -/
theorem fold_max_eq (s : Fin 10 → EReal) (a : Fin 10) (h : ∀ k, s k ≤ s a) : Finset.univ.fold max ⊥ s = s a :=
  le_antisymm ((Finset.fold_max_le _).2 ⟨bot_le, fun k _ => h k⟩) ((Finset.le_fold_max _).2 (Or.inr ⟨a, Finset.mem_univ _, le_rfl⟩))

/-- The signed minimum of ten words is the word that is below all. -/
theorem fold_minsi_eq (f : Fin 10 → BitVec 32) (a : Fin 10) (h : ∀ k, (f a).toInt ≤ (f k).toInt) :
    Finset.univ.fold IntOp.minsi 2147483647#32 f = f a := by
  apply BitVec.eq_of_toInt_eq
  have hm : ∀ x y : BitVec 32, (IntOp.minsi x y).toInt = min x.toInt y.toInt := fun x y => SortNet.toInt_minsi x y
  rw [← Finset.fold_hom (op' := min) (m := BitVec.toInt) hm]
  apply le_antisymm
  · exact (Finset.fold_min_le _).2 (Or.inr ⟨a, Finset.mem_univ _, le_rfl⟩)
  · refine (Finset.le_fold_min _).2 ⟨?_, fun k _ => h k⟩
    have h1 := BitVec.toInt_lt (x := f a)
    have h2 : (2147483647#32 : BitVec 32).toInt = 2147483647 := by decide
    rw [h2]
    omega

theorem toInt_class : ∀ k : Fin 10, (BitVec.ofNat 32 k.val).toInt = k.val := by decide

/-- The first class at which a condition holds, as the kernel finds it. -/
theorem first_hit (c : Fin 10 → Prop) [DecidablePred c] (a : Fin 10) (ha : c a) (hl : ∀ k, k < a → ¬ c k) :
    Finset.univ.fold IntOp.minsi 2147483647#32 (fun k : Fin 10 => if c k then BitVec.ofNat 32 k.val else 127#32)
      = BitVec.ofNat 32 a.val := by
  have e : (if c a then BitVec.ofNat 32 a.val else 127#32) = BitVec.ofNat 32 a.val := if_pos ha
  refine (fold_minsi_eq _ a fun k => ?_).trans e
  rw [e, toInt_class]
  have h127 : (127#32 : BitVec 32).toInt = 127 := by decide
  by_cases hk : c k
  · rw [if_pos hk, toInt_class]
    have : ¬ k < a := fun h => hl k h hk
    omega
  · rw [if_neg hk, h127]
    omega

/-- The class that the kernel picks from a row: the first at which the row's maximum is reached. -/
def pick (s : Fin 10 → EReal) : BitVec 32 :=
  Finset.univ.fold IntOp.minsi 2147483647#32
    (fun k : Fin 10 => if Finset.univ.fold max ⊥ s ≤ s k then BitVec.ofNat 32 k.val else 127#32)

/-- The row with class `w` taken out. -/
def without (s : Fin 10 → EReal) (w : BitVec 32) : Fin 10 → EReal := fun k => if BitVec.ofNat 32 k.val = w then ⊥ else s k

theorem pick_eq (s : Fin 10 → EReal) (a : Fin 10) (h : ∀ k, s k ≤ s a) (hl : ∀ k, k < a → s k < s a) :
    pick s = BitVec.ofNat 32 a.val := by
  unfold pick
  rw [fold_max_eq s a h]
  exact first_hit (fun k => s a ≤ s k) a le_rfl fun k hk => not_le.2 (hl k hk)

theorem class_inj : ∀ k a : Fin 10, BitVec.ofNat 32 k.val = BitVec.ofNat 32 a.val ↔ k = a := by decide

/-- With one of the two best classes taken out, the kernel picks the other. -/
theorem pick_without (s : Fin 10 → EReal) (a b : Fin 10) (hab : b ≠ a) (hb : s b ≠ ⊥) (h : ∀ k, k = a ∨ k = b ∨ s k < s b) :
    pick (without s (BitVec.ofNat 32 a.val)) = BitVec.ofNat 32 b.val := by
  have eb : without s (BitVec.ofNat 32 a.val) b = s b := if_neg fun e => hab ((class_inj _ _).1 e)
  have lt : ∀ k, k ≠ b → without s (BitVec.ofNat 32 a.val) k < s b := fun k hk => by
    unfold without
    by_cases e : k = a
    · rw [if_pos ((class_inj _ _).2 e)]; exact bot_lt_iff_ne_bot.2 hb
    · rw [if_neg fun e' => e ((class_inj _ _).1 e')]
      rcases h k with h | h | h
      · exact absurd h e
      · exact absurd h hk
      · exact h
  refine pick_eq _ b (fun k => ?_) fun k hk => ?_
  · rw [eb]
    by_cases e : k = b
    · rw [e, eb]
    · exact (lt k e).le
  · rw [eb]
    exact lt k hk.ne

theorem min_class : ∀ p q : Fin 10, p < q → IntOp.minsi (BitVec.ofNat 32 p.val) (BitVec.ofNat 32 q.val) = BitVec.ofNat 32 p.val
    ∧ IntOp.minsi (BitVec.ofNat 32 q.val) (BitVec.ofNat 32 p.val) = BitVec.ofNat 32 p.val
    ∧ IntOp.maxsi (BitVec.ofNat 32 p.val) (BitVec.ofNat 32 q.val) = BitVec.ofNat 32 q.val
    ∧ IntOp.maxsi (BitVec.ofNat 32 q.val) (BitVec.ofNat 32 p.val) = BitVec.ofNat 32 q.val := by decide

/-- The two picks, put in order, are the two best classes. -/
theorem picks_eq (s : Fin 10 → EReal) (p q : Fin 10) (D : Dom s p q) (hs : ∀ k, s k ≠ ⊥) :
    IntOp.minsi (pick s) (pick (without s (pick s))) = BitVec.ofNat 32 p.val
      ∧ IntOp.maxsi (pick s) (pick (without s (pick s))) = BitVec.ofNat 32 q.val := by
  obtain ⟨hpq, D⟩ := D
  have M := min_class p q hpq
  by_cases c : s q ≤ s p
  · have e : pick s = BitVec.ofNat 32 p.val := pick_eq s p
      (fun k => by rcases D k with rfl | rfl | h; exacts [le_rfl, c, h.1.le])
      (fun k hk => by
        rcases D k with rfl | rfl | h
        · exact absurd hk (lt_irrefl _)
        · exact absurd hk (not_lt.2 hpq.le)
        · exact h.1)
    have e' := pick_without s p q hpq.ne' (hs q) (fun k => by rcases D k with h | h | h; exacts [Or.inl h, Or.inr (Or.inl h), Or.inr (Or.inr h.2)])
    rw [e, e']
    exact ⟨M.1, M.2.2.1⟩
  · have c' := not_le.1 c
    have e : pick s = BitVec.ofNat 32 q.val := pick_eq s q
      (fun k => by rcases D k with rfl | rfl | h; exacts [c'.le, le_rfl, h.2.le])
      (fun k hk => by
        rcases D k with rfl | rfl | h
        · exact c'
        · exact absurd hk (lt_irrefl _)
        · exact h.2)
    have e' := pick_without s q p hpq.ne (hs p) (fun k => by rcases D k with h | h | h; exacts [Or.inr (Or.inl h), Or.inl h, Or.inr (Or.inr h.1)])
    rw [e, e']
    exact ⟨M.2.1, M.2.2.2⟩

/-- A stable sort of the row upwards ends in the two best classes, in one order or the other. -/
theorem sort_top (s : Fin 10 → EReal) (p q : Fin 10) (D : Dom s p q) (R : Fin 10 → Fin 10 → Bool)
    (hR : ∀ k k', R k k' = decide (s k < s k')) :
    (sortedFrom R 8 = p ∧ sortedFrom R 9 = q) ∨ (sortedFrom R 8 = q ∧ sortedFrom R 9 = p) := by
  obtain ⟨hpq, D⟩ := D
  have inj := sortedFrom_injective R
  have up : ∀ i j : Fin 10, i < j → s (sortedFrom R i) ≤ s (sortedFrom R j) := fun i j hij => by
    have h := sortedFrom_noInversion R R
      (fun a b h => by rw [hR, decide_eq_true_iff] at h; rw [hR, decide_eq_false_iff_not]; exact h.asymm)
      (fun a b h => h)
      (fun a b c h1 h2 => by
        rw [hR, decide_eq_false_iff_not, not_lt] at h1 h2 ⊢
        exact h2.trans h1) i j hij
    rw [hR, decide_eq_false_iff_not, not_lt] at h
    exact h
  have last : ∀ a b : Fin 10, a ≠ b → (∀ k, k = a ∨ k = b ∨ s k < s a) → sortedFrom R 8 = a ∨ sortedFrom R 9 = a := fun a b hab h => by
    obtain ⟨i, hi⟩ := sortedFrom_surjective R a
    by_cases h8 : i = 8
    · exact Or.inl (h8 ▸ hi)
    by_cases h9 : i = 9
    · exact Or.inr (h9 ▸ hi)
    exfalso
    have hv8 : i.val ≠ 8 := fun e => h8 (Fin.ext e)
    have hv9 : i.val ≠ 9 := fun e => h9 (Fin.ext e)
    have l8 : i < 8 := by show i.val < 8; omega
    have l9 : i < 9 := by show i.val < 9; omega
    have isb : ∀ j : Fin 10, i < j → sortedFrom R j = b := fun j hj => by
      have h1 := up i j hj
      rw [hi] at h1
      rcases h (sortedFrom R j) with e | e | e
      · exact absurd (inj (e.trans hi.symm)) hj.ne'
      · exact e
      · exact absurd h1 (not_le.2 e)
    exact absurd (inj ((isb 8 l8).trans (isb 9 l9).symm)) (by decide)
  have hp := last p q hpq.ne fun k => by rcases D k with h | h | h; exacts [Or.inl h, Or.inr (Or.inl h), Or.inr (Or.inr h.1)]
  have hq := last q p hpq.ne' fun k => by rcases D k with h | h | h; exacts [Or.inr (Or.inl h), Or.inl h, Or.inr (Or.inr h.2)]
  rcases hp with hp | hp <;> rcases hq with hq | hq
  · exact absurd (hp.symm.trans hq) hpq.ne
  · exact Or.inl ⟨hp, hq⟩
  · exact Or.inr ⟨hq, hp⟩
  · exact absurd (hp.symm.trans hq) hpq.ne

/-- A stable sort of two different classes puts the smaller first. -/
theorem sort_pair (v : Fin 2 → Fin 10) (p q : Fin 10) (hpq : p < q) (hv : (v 0 = p ∧ v 1 = q) ∨ (v 0 = q ∧ v 1 = p))
    (R : Fin 2 → Fin 2 → Bool) (hR : ∀ k k', R k k' = decide (v k < v k')) :
    v (sortedFrom R 0) = p ∧ v (sortedFrom R 1) = q := by
  have inj := sortedFrom_injective R
  have up : v (sortedFrom R 0) ≤ v (sortedFrom R 1) := by
    have h := sortedFrom_noInversion R R
      (fun a b h => by rw [hR, decide_eq_true_iff] at h; rw [hR, decide_eq_false_iff_not]; exact h.asymm)
      (fun a b h => h)
      (fun a b c h1 h2 => by
        rw [hR, decide_eq_false_iff_not, not_lt] at h1 h2 ⊢
        exact h2.trans h1) 0 1 (by decide)
    rw [hR, decide_eq_false_iff_not, not_lt] at h
    exact h
  have two : ∀ i : Fin 2, i = 0 ∨ i = 1 := by decide
  rcases two (sortedFrom R 0) with h0 | h0 <;> rcases two (sortedFrom R 1) with h1 | h1
  · exact absurd (inj (h0.trans h1.symm)) (by decide)
  · rw [h0, h1] at up ⊢
    rcases hv with ⟨a, b⟩ | ⟨a, b⟩
    · exact ⟨a, b⟩
    · rw [a, b] at up; exact absurd up (not_le.2 hpq)
  · rw [h0, h1] at up ⊢
    rcases hv with ⟨a, b⟩ | ⟨a, b⟩
    · rw [a, b] at up; exact absurd up (not_le.2 hpq)
    · exact ⟨b, a⟩
  · exact absurd (inj (h0.trans h1.symm)) (by decide)

/-- The logarithm of the softmax of a row. -/
def lsm (s : Fin 10 → EReal) (k : Fin 10) : EReal :=
  (s k - Finset.univ.fold max ⊥ s) - Ideal.log (∑ j : Fin 10, Ideal.exp (s j - Finset.univ.fold max ⊥ s))

/-- A sum of reals is real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The logarithm of the softmax of a real row keeps the order. -/
theorem lsm_lt (s : Fin 10 → EReal) (hs : ∀ k, ∃ r : ℝ, s k = r) (k k' : Fin 10) : lsm s k < lsm s k' ↔ s k < s k' := by
  choose r hr using hs
  obtain ⟨a, ha⟩ : ∃ a, ∀ k, r k ≤ r a := Finite.exists_max r
  have e : Finset.univ.fold max ⊥ s = ((r a : ℝ) : EReal) := by
    rw [fold_max_eq s a fun k => by rw [hr, hr]; exact EReal.coe_le_coe_iff.2 (ha k), hr]
  have pos : 0 < ∑ j : Fin 10, Real.exp (r j - r a) := Finset.sum_pos (fun j _ => Real.exp_pos _) ⟨0, Finset.mem_univ _⟩
  have l : Ideal.log (∑ j : Fin 10, Ideal.exp (s j - Finset.univ.fold max ⊥ s))
      = ((Real.log (∑ j : Fin 10, Real.exp (r j - r a)) : ℝ) : EReal) := by
    rw [e, Finset.sum_congr rfl fun j _ => (by rw [hr, ← EReal.coe_sub, Ideal.exp_coe] :
      Ideal.exp (s j - ((r a : ℝ) : EReal)) = ((Real.exp (r j - r a) : ℝ) : EReal)), ← coe_sum, Ideal.log_coe, if_neg (not_le.2 pos)]
  unfold lsm
  rw [l, e, hr, hr, ← EReal.coe_sub, ← EReal.coe_sub, ← EReal.coe_sub, ← EReal.coe_sub, EReal.coe_lt_coe_iff, EReal.coe_lt_coe_iff]
  constructor <;> intro h <;> linarith

theorem root_pos : (0 : ℝ) < Real.sqrt (2097173 / 2097152) := Real.sqrt_pos.2 (by norm_num)

/-- A real factor distributes over the sum of a real and any extended real. -/
theorem real_distrib (x k : ℝ) (y : EReal) : ((x : EReal) + y) * (k : EReal) = x * k + y * k := by
  induction y with
  | coe y => rw [← EReal.coe_add, ← EReal.coe_mul, ← EReal.coe_mul, ← EReal.coe_mul, ← EReal.coe_add, add_mul]
  | top =>
    rw [EReal.coe_add_top, ← EReal.coe_mul]
    rcases lt_trichotomy k 0 with h | rfl | h
    · rw [EReal.top_mul_coe_of_neg h, EReal.add_bot]
    · simp
    · rw [EReal.top_mul_coe_of_pos h, EReal.coe_add_top]
  | bot =>
    rw [EReal.add_bot, ← EReal.coe_mul]
    rcases lt_trichotomy k 0 with h | rfl | h
    · rw [EReal.bot_mul_coe_of_neg h, EReal.coe_add_top]
    · simp
    · rw [EReal.bot_mul_coe_of_pos h, EReal.add_bot]

/-- One output of the second stage's convolution: scaling the weights and the bias beforehand is the batch normalisation,
    where pixels, weights and scale are real. -/
theorem scaled_conv (n : ℕ) (P w : Fin n → EReal) (g cb bb : EReal) (hP : ∀ k, ∃ r : ℝ, P k = r) (hw : ∀ k, ∃ r : ℝ, w k = r)
    (hg : ∃ r : ℝ, g = r) :
    (∑ u, P u * (w u * Ideal.div g root)) + (cb * Ideal.div g root + bb) = bn ((∑ u, P u * w u) + cb) g bb := by
  choose p hp using hP
  choose v hv using hw
  obtain ⟨g, rfl⟩ := hg
  unfold bn root
  rw [Ideal.div_coe root_pos.ne', Ideal.div_coe root_pos.ne', mul_assoc, mul_comm (((1 / √(2097173 / 2097152) : ℝ)) : EReal)]
  simp only [hp, hv, ← EReal.coe_mul, ← coe_sum]
  rw [real_distrib, ← add_assoc, ← EReal.coe_mul, Finset.sum_mul]
  exact congrArg (fun z : ℝ => (z : EReal) + _ + _) (Finset.sum_congr rfl fun u _ => by ring)

/-- Adding the bias before or after the largest of four is taken. -/
theorem top4_add (a : Fin 4 → EReal) (b : EReal) :
    max (max (max (max (a 0) (a 1)) (a 2)) (a 3) + b) 0 = top4 fun t => a t + b := by
  unfold top4
  rw [max_add_add_right, max_add_add_right, max_add_add_right]

/-- The largest of four positive parts. -/
theorem top4_pos (a : Fin 4 → EReal) :
    max (max (max (max ⊥ (max (a 0) 0)) (max (a 1) 0)) (max (a 2) 0)) (max (a 3) 0) = top4 a := by
  unfold top4
  rw [max_bot_left, ← sup_sup_distrib_right, ← sup_sup_distrib_right, ← sup_sup_distrib_right]

/-- The index of the pair of classes. -/
def pairIdx (p q : Fin 10) : ℕ := p.val * (19 - p.val) / 2 + (q.val - p.val - 1)

theorem pairIdx_lt : ∀ p q : Fin 10, p < q → pairIdx p q < 45 := by decide

/-- Picking column `c` of a row of 90 by its number. -/
theorem sum_pick (f : Fin 90 → EReal) (c : Fin 90) :
    (∑ n : Fin 90, if BitVec.ofNat 32 n.val = BitVec.ofNat 32 c.val then f n else 0) = f c := by
  have h : ∀ n : Fin 90, (if BitVec.ofNat 32 n.val = BitVec.ofNat 32 c.val then f n else 0) = if n = c then f n else 0 := fun n => by
    have e : (BitVec.ofNat 32 n.val = BitVec.ofNat 32 c.val) ↔ n = c := by
      rw [← BitVec.toNat_inj, BitVec.toNat_ofNat, BitVec.toNat_ofNat, Fin.ext_iff]
      omega
    simp only [e]
  rw [Finset.sum_congr rfl fun n _ => h n, Finset.sum_ite_eq' Finset.univ c, if_pos (Finset.mem_univ _)]

/-- The block-diagonal product: only the pair's own block of sixty features counts. -/
theorem sum_block (f : Fin 2700 → EReal) (w : Fin 45 → Fin 60 → EReal) (e : Fin 45) :
    (∑ n : Fin 2700, f n * ((if (⟨n.val / 60, by omega⟩ : Fin 45) = e then 1 else 0) * w ⟨n.val / 60, by omega⟩ ⟨n.val % 60, by omega⟩))
      = ∑ r : Fin 60, f ⟨e.val * 60 + r.val, by omega⟩ * w e r := by
  symm
  refine Finset.sum_bij_ne_zero (fun r _ _ => (⟨e.val * 60 + r.val, by omega⟩ : Fin 2700)) (fun _ _ _ => Finset.mem_univ _)
    (fun a _ _ b _ _ h => Fin.ext (by have := Fin.ext_iff.1 h; simp only at this; omega)) (fun n _ hn => ?_) (fun r _ _ => ?_)
  · have he : (⟨n.val / 60, by omega⟩ : Fin 45) = e := by
      by_contra c
      rw [if_neg c, zero_mul, mul_zero] at hn
      exact hn rfl
    have hv : n.val / 60 = e.val := congrArg Fin.val he
    have hn' : (⟨e.val * 60 + n.val % 60, by omega⟩ : Fin 2700) = n := Fin.ext (by show e.val * 60 + n.val % 60 = n.val; omega)
    refine ⟨⟨n.val % 60, by omega⟩, Finset.mem_univ _, ?_, hn'⟩
    rw [if_pos he, one_mul] at hn
    rw [he] at hn
    show f ⟨e.val * 60 + n.val % 60, by omega⟩ * _ ≠ 0
    rw [hn']
    exact hn
  · have h1 : (⟨(e.val * 60 + r.val) / 60, by omega⟩ : Fin 45) = e := Fin.ext (by show (e.val * 60 + r.val) / 60 = e.val; omega)
    have h2 : (⟨(e.val * 60 + r.val) % 60, by omega⟩ : Fin 60) = r := Fin.ext (by show (e.val * 60 + r.val) % 60 = r.val; omega)
    show _ = f _ * ((if (⟨(e.val * 60 + r.val) / 60, _⟩ : Fin 45) = e then 1 else 0) * w ⟨(e.val * 60 + r.val) / 60, _⟩ ⟨(e.val * 60 + r.val) % 60, _⟩)
    rw [if_pos h1, one_mul, h1, h2]

end Cert.Spec

end
-- ==== Proof.KPay.lean ====
/- What the kernel's block computation holds at an index, in plain arithmetic. -/
module

public import proofs.«01_k».proof.Proof.Gen.KernelIdeal.Value
public import proofs.«01_k».proof.Proof.Math
public import Idealize.ShloMosaic.Lib.Pointwise

@[expose] public section

set_option maxRecDepth 16384

noncomputable section

namespace Cert.KVal

open Cert.KernelIdeal Cert.KernelIdeal.Gen Cert.KernelIdeal.Value Idealize.ShloMosaic Idealize.ShloMosaic.TcCoe
  Idealize.SL.Sem Cert.Spec

/-- The named ninth is one ninth. -/
theorem ninth_eq : (Named.named κ "ninth" 0x3DE38E39#32 : Ideal .f32) = ((1 / 9 : ℝ) : EReal) :=
  IdealRules.named_const.ideal_named_scalar _ _ _ _ rfl

/-- The named root is the root of one plus the small constant. -/
theorem root_eq : (Named.named κ "root" 0x3F80002A#32 : Ideal .f32) = root :=
  IdealRules.named_const.ideal_named_scalar _ _ _ _ rfl

/-- The named mask is minus infinity. -/
theorem mask_eq : (Named.named κ "mask" 0xF149F2CA#32 : Ideal .f32) = (⊥ : EReal) :=
  IdealRules.named_const.ideal_named_scalar _ _ _ _ rfl

/-- The pattern of minus infinity. -/
theorem ninf_eq : Ideal.ofBits .f32 0xFF800000#32 = (⊥ : EReal) := by simp [Ideal.ofBits, Ideal.ieee]

/-- Choosing by an equality of words. -/
theorem sel_eq {α : Type} (a b : BitVec 32) (x y : α) : Scalar.select (IntOp.cmpi .eq a b) x y = if a = b then x else y := by
  by_cases h : a = b
  · simp [Scalar.select, IntOp.cmpi, h]
  · have h' : (a == b) = false := beq_eq_false_iff_ne.2 h
    simp [Scalar.select, IntOp.cmpi, h, h']

/-- Choosing by an order of two values. -/
theorem sel_ge {α : Type} (a b : EReal) (x y : α) : Scalar.select (Ideal.cmp .oge a b) x y = if b ≤ a then x else y := by
  by_cases h : b ≤ a <;> simp [Scalar.select, Ideal.cmp, h]

/-- The pooled block at row `r` and tap `k`. -/
theorem pay1_apply (x : Vec Ideal S256x9x81 .f32) (r : Fin 256) (k : Fin 81) :
    k0_pay1 (F := Ideal) x (ix2 r k)
      = (((x (ix3 r 0 k) + x (ix3 r 3 k)) + x (ix3 r 6 k)) + ((x (ix3 r 1 k) + x (ix3 r 4 k)) + x (ix3 r 7 k))
          + ((x (ix3 r 2 k) + x (ix3 r 5 k)) + x (ix3 r 8 k))) * ((1 / 9 : ℝ) : EReal) := by
  pointwise [k0_pay1]
  rw [ninth_eq]

theorem hz3 : (![0, 0, 0] : Fin 3 → Nat) = fun _ => 0 := funext fun a => by fin_cases a <;> rfl
theorem hz2 : (![0, 0] : Fin 2 → Nat) = fun _ => 0 := funext fun a => by fin_cases a <;> rfl

/-- Two columns of words, side by side. -/
def byCol (a b : Fin 256 → BitVec 32) (y : S256x2.Idx) : BitVec 32 :=
  if (y 1).val = 0 then a ⟨(y 0).val, (y 0).isLt⟩ else b ⟨(y 0).val, (y 0).isLt⟩

theorem byCol_left (a b : Fin 256 → BitVec 32) (y : S256x2.Idx) (r : Fin 256) (h : (y 0).val = r.val) (h1 : (y 1).val = 0) :
    byCol a b y = a r :=
  (if_pos h1).trans (congrArg a (Fin.ext h))

theorem byCol_right (a b : Fin 256 → BitVec 32) (y : S256x2.Idx) (r : Fin 256) (h : (y 0).val = r.val) (h1 : (y 1).val ≠ 0) :
    byCol a b y = b r :=
  (if_neg h1).trans (congrArg b (Fin.ext h))

section blocks

variable (x0 : Vec Ideal S256x9x81 .f32) (x1 : Vec Ideal S4x81x180 .bf16) (x2 x3 x4 : Vec Ideal S1x180 .f32) (x5 : Vec Ideal S180x10 .bf16) (x6 : Vec Ideal S1x10 .f32) (x7 : Vec Ideal S4x81x2700 .bf16) (x8 : Vec Ideal S1x2700 .f32) (x9 : Vec Ideal S2700x90 .bf16) (x10 : Vec Ideal S1x90 .f32)

/-- Stage 1's logits of a block, at row `r` and class `o`. -/
theorem pay24_apply (r : Fin 256) (o : Fin 10) :
    k0_pay24 (F := Ideal) x0 x1 x2 x3 x4 x5 x6 x7 x8 x9 x10 (ix2 r o)
      = (∑ f : Fin 180, top4 (fun t => bn ((∑ k : Fin 81, k0_pay1 (F := Ideal) x0 (ix2 r k) * x1 (ix3 t k f)) + x2 (ix2 0 f))
          (x3 (ix2 0 f)) (x4 (ix2 0 f))) * x5 (ix2 f o)) + x6 (ix2 0 o) := by
  have e : View.ld x0 r0_0 = x0 := View.ld_unit_zero hz3 _ _
  pointwise [k0_pay24, k0_pay6, k0_pay22, k0_pay21, k0_pay20, k0_pay19, k0_pay5, k0_pay4, k0_pay3, k0_pay2]
  simp only [e, root_eq, top4, bn]

/-- Where row `r` reaches its largest logit, the class; 127 elsewhere. -/
theorem pay25_apply (r : Fin 256) (o : Fin 10) :
    k0_pay25 (F := Ideal) x0 x1 x2 x3 x4 x5 x6 x7 x8 x9 x10 (ix2 r o)
      = if Finset.univ.fold max ⊥ (fun o => k0_pay24 (F := Ideal) x0 x1 x2 x3 x4 x5 x6 x7 x8 x9 x10 (ix2 r o)) ≤ k0_pay24 (F := Ideal) x0 x1 x2 x3 x4 x5 x6 x7 x8 x9 x10 (ix2 r o)
        then BitVec.ofNat 32 o.val else 127#32 := by
  unfold k0_pay25 k0_pay24 k0_pay7
  pointwise
  simp only [sel_ge, ninf_eq]

/-- The smaller of the two picks of row `r`. -/
theorem pay26_apply (r : Fin 256) :
    k0_pay26 (F := Ideal) x0 x1 x2 x3 x4 x5 x6 x7 x8 x9 x10 (ix2 r 0)
      = IntOp.minsi (pick fun o => k0_pay24 (F := Ideal) x0 x1 x2 x3 x4 x5 x6 x7 x8 x9 x10 (ix2 r o))
          (pick (without (fun o => k0_pay24 (F := Ideal) x0 x1 x2 x3 x4 x5 x6 x7 x8 x9 x10 (ix2 r o)) (pick fun o => k0_pay24 (F := Ideal) x0 x1 x2 x3 x4 x5 x6 x7 x8 x9 x10 (ix2 r o)))) := by
  unfold k0_pay26 k0_pay23
  have h := pay25_apply x0 x1 x2 x3 x4 x5 x6 x7 x8 x9 x10 r
  generalize k0_pay24 (F := Ideal) x0 x1 x2 x3 x4 x5 x6 x7 x8 x9 x10 = s at *
  generalize k0_pay25 (F := Ideal) x0 x1 x2 x3 x4 x5 x6 x7 x8 x9 x10 = v at *
  pointwise [k0_pay10, k0_pay9, k0_pay8]
  simp only [h, mask_eq, pick, without, sel_eq, sel_ge, ninf_eq]
  rfl

/-- The larger of the two picks of row `r`. -/
theorem pay27_apply (r : Fin 256) :
    k0_pay27 (F := Ideal) x0 x1 x2 x3 x4 x5 x6 x7 x8 x9 x10 (ix2 r 0)
      = IntOp.maxsi (pick fun o => k0_pay24 (F := Ideal) x0 x1 x2 x3 x4 x5 x6 x7 x8 x9 x10 (ix2 r o))
          (pick (without (fun o => k0_pay24 (F := Ideal) x0 x1 x2 x3 x4 x5 x6 x7 x8 x9 x10 (ix2 r o)) (pick fun o => k0_pay24 (F := Ideal) x0 x1 x2 x3 x4 x5 x6 x7 x8 x9 x10 (ix2 r o)))) := by
  unfold k0_pay27 k0_pay23
  have h := pay25_apply x0 x1 x2 x3 x4 x5 x6 x7 x8 x9 x10 r
  generalize k0_pay24 (F := Ideal) x0 x1 x2 x3 x4 x5 x6 x7 x8 x9 x10 = s at *
  generalize k0_pay25 (F := Ideal) x0 x1 x2 x3 x4 x5 x6 x7 x8 x9 x10 = v at *
  pointwise [k0_pay11, k0_pay9, k0_pay8]
  simp only [h, mask_eq, pick, without, sel_eq, sel_ge, ninf_eq]
  rfl

/-- The first output's block is stage 1's logits. -/
theorem out11_apply : out0_11 (F := Ideal) x0 x1 x2 x3 x4 x5 x6 x7 x8 x9 x10 = k0_pay24 (F := Ideal) x0 x1 x2 x3 x4 x5 x6 x7 x8 x9 x10 :=
  View.canon_unit_zero hz2 _ _

/-- The third output's block is the two picks, the smaller one first. -/
theorem out13_apply (r : Fin 256) (d : Fin 2) :
    out0_13 (F := Ideal) x0 x1 x2 x3 x4 x5 x6 x7 x8 x9 x10 (ix2 r d)
      = if d = 0 then k0_pay26 (F := Ideal) x0 x1 x2 x3 x4 x5 x6 x7 x8 x9 x10 (ix2 r 0) else k0_pay27 (F := Ideal) x0 x1 x2 x3 x4 x5 x6 x7 x8 x9 x10 (ix2 r 0) := by
  unfold out0_13
  refine (View.canon_apply_of_pieces (byCol (fun r => k0_pay26 (F := Ideal) x0 x1 x2 x3 x4 x5 x6 x7 x8 x9 x10 (ix2 r 0))
    (fun r => k0_pay27 (F := Ideal) x0 x1 x2 x3 x4 x5 x6 x7 x8 x9 x10 (ix2 r 0))) _ ?_ (ix2 r d) (cover0_13 _ _ _)).trans ?_
  · intro pc hpc x
    rcases List.mem_cons.mp hpc with rfl | hpc
    · have h1 : (x 1).val < 1 := (x 1).isLt
      have ex : x = ix2 (x 0 : Fin 256) (0 : Fin 1) := by
        funext a; match a with
        | ⟨0, _⟩ => rfl
        | ⟨1, _⟩ => exact Fin.ext (by show (x 1).val = 0; omega)
      exact (congrArg _ ex).trans (byCol_right (fun r => k0_pay26 (F := Ideal) x0 x1 x2 x3 x4 x5 x6 x7 x8 x9 x10 (ix2 r 0)) (fun r => k0_pay27 (F := Ideal) x0 x1 x2 x3 x4 x5 x6 x7 x8 x9 x10 (ix2 r 0)) (r0_10.emb x) (x 0 : Fin 256) (by show 0 + 1 * (x 0).val = (x 0).val; omega) (by show 1 + 1 * (x 1).val ≠ 0; omega)).symm
    rcases List.mem_cons.mp hpc with rfl | hpc
    · have h1 : (x 1).val < 1 := (x 1).isLt
      have ex : x = ix2 (x 0 : Fin 256) (0 : Fin 1) := by
        funext a; match a with
        | ⟨0, _⟩ => rfl
        | ⟨1, _⟩ => exact Fin.ext (by show (x 1).val = 0; omega)
      exact (congrArg _ ex).trans (byCol_left (fun r => k0_pay26 (F := Ideal) x0 x1 x2 x3 x4 x5 x6 x7 x8 x9 x10 (ix2 r 0)) (fun r => k0_pay27 (F := Ideal) x0 x1 x2 x3 x4 x5 x6 x7 x8 x9 x10 (ix2 r 0)) (r0_9.emb x) (x 0 : Fin 256) (by show 0 + 1 * (x 0).val = (x 0).val; omega) (by show 0 + 1 * (x 1).val = 0; omega)).symm
    nomatch hpc
  · by_cases hd : d = 0
    · rw [if_pos hd]
      exact byCol_left _ _ _ r rfl (congrArg Fin.val hd)
    · rw [if_neg hd]
      exact byCol_right _ _ _ r rfl (fun h => hd (Fin.ext h))

end blocks

/-- The last step of the block: the two expert logits at the two classes, −100 elsewhere, then the logarithm of the softmax. -/
theorem pay18_apply (i0 i1 e : IVec S256x1 32) (y : FVec Ideal S256x90 .f32) (b : FVec Ideal S1x90 .f32) (r : Fin 256) (k : Fin 10) :
    k0_pay18 (F := Ideal) (iota .tc S256x10 32 [1] iota_S256x10_d1_w32) i0 i1 e y b (ix2 r k)
      = lsm (fun k => if BitVec.ofNat 32 k.val = i0 (ix2 r 0)
          then ∑ n : Fin 90, if BitVec.ofNat 32 n.val = 2#32 * e (ix2 r 0) then y (ix2 r n) + b (ix2 0 n) else 0
          else if BitVec.ofNat 32 k.val = i1 (ix2 r 0)
          then ∑ n : Fin 90, if BitVec.ofNat 32 n.val = 2#32 * e (ix2 r 0) + 1#32 then y (ix2 r n) + b (ix2 0 n) else 0
          else Ideal.ofBits .f32 0xC2C80000#32) k := by
  pointwise [k0_pay18]
  simp only [lsm, sel_eq, ninf_eq]
  rfl

/-- Stage 2's products of the block. -/
theorem pay16_apply (P : FVec Ideal S256x81 .bf16) (w0 w1 w2 w3 : Vec Ideal S1x81x2700 .bf16) (b : Vec Ideal S1x2700 .f32)
    (g : Vec Ideal S2700x90 .bf16) (r : Fin 256) (c : Fin 90) :
    k0_pay16 (F := Ideal) P w0 w1 w2 w3 b g (ix2 r c)
      = ∑ f : Fin 2700, max (max (max (max (∑ k : Fin 81, P (ix2 r k) * w0 (ix3 0 k f)) (∑ k : Fin 81, P (ix2 r k) * w1 (ix3 0 k f)))
          (∑ k : Fin 81, P (ix2 r k) * w2 (ix3 0 k f))) (∑ k : Fin 81, P (ix2 r k) * w3 (ix3 0 k f)) + b (ix2 0 f)) 0 * g (ix2 f c) := by
  pointwise [k0_pay16]

/-- The expert's number in words. -/
theorem pay15_apply (s : FVec Ideal S256x10 .f32) (v113 v119 : IVec S256x10 32) (i0 i1 : IVec S256x1 32)
    (r : Fin 256) (p q : Fin 10) (hpq : p < q) (h : k0_pay10 (F := Ideal) s v113 v119 (ix2 r 0) = BitVec.ofNat 32 p.val)
    (h0 : i0 (ix2 r 0) = BitVec.ofNat 32 p.val) (h1 : i1 (ix2 r 0) = BitVec.ofNat 32 q.val) :
    k0_pay15 i0 i1 (k0_pay13 (F := Ideal) s v113 v119) (k0_pay14 (F := Ideal) s v113 v119) (ix2 r 0) = BitVec.ofNat 32 (pairIdx p q) := by
  pointwise [k0_pay15, k0_pay14, k0_pay13, k0_pay12]
  rw [h, h0, h1]
  clear h h0 h1
  revert p q
  decide +kernel

/-- Stage 2's output column `c` of row `r`, as the block computes it. -/
def colOut (x0 : Vec Ideal S256x9x81 .f32) (x7 : Vec Ideal S4x81x2700 .bf16) (x8 : Vec Ideal S1x2700 .f32)
    (x9 : Vec Ideal S2700x90 .bf16) (x10 : Vec Ideal S1x90 .f32) (r : Fin 256) (c : Fin 90) : EReal :=
  (∑ f : Fin 2700, max (max (max (max (∑ k : Fin 81, k0_pay1 (F := Ideal) x0 (ix2 r k) * x7 (ix3 0 k f))
      (∑ k : Fin 81, k0_pay1 (F := Ideal) x0 (ix2 r k) * x7 (ix3 1 k f)))
      (∑ k : Fin 81, k0_pay1 (F := Ideal) x0 (ix2 r k) * x7 (ix3 2 k f)))
      (∑ k : Fin 81, k0_pay1 (F := Ideal) x0 (ix2 r k) * x7 (ix3 3 k f)) + x8 (ix2 0 f)) 0 * x9 (ix2 f c)) + x10 (ix2 0 c)

theorem twice_word : ∀ p q : Fin 10, p < q → 2#32 * BitVec.ofNat 32 (pairIdx p q) = BitVec.ofNat 32 (2 * pairIdx p q)
    ∧ 2#32 * BitVec.ofNat 32 (pairIdx p q) + 1#32 = BitVec.ofNat 32 (2 * pairIdx p q + 1) := by decide +kernel

/-- The second output's block: the pair's two columns at the two classes, −100 elsewhere, then the logarithm of the softmax. -/
theorem out12_apply (x0 : Vec Ideal S256x9x81 .f32) (x1 : Vec Ideal S4x81x180 .bf16) (x2 x3 x4 : Vec Ideal S1x180 .f32) (x5 : Vec Ideal S180x10 .bf16) (x6 : Vec Ideal S1x10 .f32) (x7 : Vec Ideal S4x81x2700 .bf16) (x8 : Vec Ideal S1x2700 .f32) (x9 : Vec Ideal S2700x90 .bf16) (x10 : Vec Ideal S1x90 .f32)
    (r : Fin 256) (p q : Fin 10) (D : Dom (fun o => k0_pay24 (F := Ideal) x0 x1 x2 x3 x4 x5 x6 x7 x8 x9 x10 (ix2 r o)) p q)
    (hs : ∀ o, k0_pay24 (F := Ideal) x0 x1 x2 x3 x4 x5 x6 x7 x8 x9 x10 (ix2 r o) ≠ ⊥) (k : Fin 10) :
    out0_12 (F := Ideal) x0 x1 x2 x3 x4 x5 x6 x7 x8 x9 x10 (ix2 r k)
      = lsm (fun k => if k = p then colOut x0 x7 x8 x9 x10 r ⟨2 * pairIdx p q, by have := pairIdx_lt p q D.1; omega⟩
          else if k = q then colOut x0 x7 x8 x9 x10 r ⟨2 * pairIdx p q + 1, by have := pairIdx_lt p q D.1; omega⟩
          else Ideal.ofBits .f32 0xC2C80000#32) k := by
  obtain ⟨w0, w1⟩ := picks_eq _ p q D hs
  have h0 := (pay26_apply x0 x1 x2 x3 x4 x5 x6 x7 x8 x9 x10 r).trans w0
  have h1 := (pay27_apply x0 x1 x2 x3 x4 x5 x6 x7 x8 x9 x10 r).trans w1
  have e : View.ld x0 r0_0 = x0 := View.ld_unit_zero hz3 _ _
  have e8 : View.ld x8 r0_15 = x8 := View.ld_unit_zero hz2 _ _
  have e9 : View.ld x9 r0_16 = x9 := View.ld_unit_zero hz2 _ _
  have e10 : View.ld x10 r0_17 = x10 := View.ld_unit_zero hz2 _ _
  have hE := pay15_apply (k0_pay24 (F := Ideal) x0 x1 x2 x3 x4 x5 x6 x7 x8 x9 x10) (k0_pay23 (F := Ideal) x0 x1 x2 x3 x4 x5 x6 x7 x8 x9 x10) (k0_pay25 (F := Ideal) x0 x1 x2 x3 x4 x5 x6 x7 x8 x9 x10)
    (k0_pay26 (F := Ideal) x0 x1 x2 x3 x4 x5 x6 x7 x8 x9 x10) (k0_pay27 (F := Ideal) x0 x1 x2 x3 x4 x5 x6 x7 x8 x9 x10) r p q D.1 h0 h0 h1
  obtain ⟨t0, t1⟩ := twice_word p q D.1
  have eo : out0_12 (F := Ideal) x0 x1 x2 x3 x4 x5 x6 x7 x8 x9 x10 = _ := View.canon_unit_zero hz2 _ _
  rw [eo]
  refine (pay18_apply _ _ _ _ _ r k).trans ?_
  rw [h0, h1, hE, t1, t0]
  have c0 := sum_pick (fun n => k0_pay16 (F := Ideal) (k0_pay19 x0 x1 x2 x3 x4 x5 x6 x7 x8 x9 x10) (View.ld x7 r0_11) (View.ld x7 r0_12) (View.ld x7 r0_13) (View.ld x7 r0_14)
    (View.ld x8 r0_15) (View.ld x9 r0_16) (ix2 r n) + k0_pay17 (View.ld x10 r0_17) (ix2 0 n)) ⟨2 * pairIdx p q, by have := pairIdx_lt p q D.1; omega⟩
  have c1 := sum_pick (fun n => k0_pay16 (F := Ideal) (k0_pay19 x0 x1 x2 x3 x4 x5 x6 x7 x8 x9 x10) (View.ld x7 r0_11) (View.ld x7 r0_12) (View.ld x7 r0_13) (View.ld x7 r0_14)
    (View.ld x8 r0_15) (View.ld x9 r0_16) (ix2 r n) + k0_pay17 (View.ld x10 r0_17) (ix2 0 n)) ⟨2 * pairIdx p q + 1, by have := pairIdx_lt p q D.1; omega⟩
  have col : ∀ n : Fin 90, k0_pay16 (F := Ideal) (k0_pay19 x0 x1 x2 x3 x4 x5 x6 x7 x8 x9 x10) (View.ld x7 r0_11) (View.ld x7 r0_12) (View.ld x7 r0_13) (View.ld x7 r0_14)
      (View.ld x8 r0_15) (View.ld x9 r0_16) (ix2 r n) + k0_pay17 (View.ld x10 r0_17) (ix2 0 n) = colOut x0 x7 x8 x9 x10 r n := fun n => by
    rw [pay16_apply, e8, e9, e10]
    unfold colOut k0_pay19
    rw [e]
    pointwise [k0_pay17]
  rw [col] at c0 c1
  simp only at c0 c1
  simp only [c0, c1, class_inj]

end Cert.KVal

end
-- ==== Proof.Tables.lean ====
/- The constant tables of the kernel, entry by entry. The two shift tables place a filter tap at the pooled pixel it
   meets, and the third table is the identity matrix. -/
module

public import proofs.«01_k».proof.KernelIdeal

@[expose] public section

set_option maxRecDepth 16384
-- one table part at a time: each evaluation holds its memory while it runs
set_option Elab.async false

namespace Cert.KVal

open Cert.KernelIdeal Idealize.ShloMosaic

/-- What the first shift table holds under the shift `t`: entry `(r, u, p)` is one exactly where row `r` is the pixel
    that tap `u` meets at the pooled position `p`. -/
abbrev Shift0 (t : Fin 4) : Prop := ∀ (r : Fin 81) (u : Fin 9) (p : Fin 9),
    lit0 ⟨((t.val * 81 + r.val) * 9 + u.val) * 9 + p.val, by omega⟩
      = if r.val = (2 * (p.val / 3) + t.val / 2 + u.val / 3) * 9 + (2 * (p.val % 3) + t.val % 2 + u.val % 3)
        then 0x3F800000#32 else 0x00000000#32

/-- The same of the second shift table. -/
abbrev Shift1 (t : Fin 4) : Prop := ∀ (r : Fin 81) (u : Fin 25) (p : Fin 4),
    lit1 ⟨((t.val * 81 + r.val) * 25 + u.val) * 4 + p.val, by omega⟩
      = if r.val = (2 * (p.val / 2) + t.val / 2 + u.val / 5) * 9 + (2 * (p.val % 2) + t.val % 2 + u.val % 5)
        then 0x3F800000#32 else 0x00000000#32

/-- The first table under shift 0. -/
theorem shift0_0 : Shift0 0 := by decide +kernel
/-- The first table under shift 1. -/
theorem shift0_1 : Shift0 1 := by decide +kernel
/-- The first table under shift 2. -/
theorem shift0_2 : Shift0 2 := by decide +kernel
/-- The first table under shift 3. -/
theorem shift0_3 : Shift0 3 := by decide +kernel
/-- The second table under shift 0. -/
theorem shift1_0 : Shift1 0 := by decide +kernel
/-- The second table under shift 1. -/
theorem shift1_1 : Shift1 1 := by decide +kernel
/-- The second table under shift 2. -/
theorem shift1_2 : Shift1 2 := by decide +kernel
/-- The second table under shift 3. -/
theorem shift1_3 : Shift1 3 := by decide +kernel

/-- The first table, whatever the shift. -/
theorem lit0_eq (t : Fin 4) : Shift0 t := by
  match t with
  | 0 => exact shift0_0
  | 1 => exact shift0_1
  | 2 => exact shift0_2
  | 3 => exact shift0_3

/-- The second table, whatever the shift. -/
theorem lit1_eq (t : Fin 4) : Shift1 t := by
  match t with
  | 0 => exact shift1_0
  | 1 => exact shift1_1
  | 2 => exact shift1_2
  | 3 => exact shift1_3

/-- The third table is the identity matrix. -/
theorem lit2_eq : ∀ (e f : Fin 45), lit2 ⟨e.val * 45 + f.val, by omega⟩
      = if e = f then 0x3F800000#32 else 0x00000000#32 := by
  decide +kernel

end Cert.KVal
-- ==== Proof.Goal.lean ====
/- The two stages' logits of one example, of the arrays themselves. -/
module

public import proofs.«01_k».proof.Proof.Math
public import Idealize.ShloMosaic.Lib.Pointwise

@[expose] public section

noncomputable section

namespace Cert.Spec

open Idealize.ShloMosaic

/-- The pattern of one. -/
theorem one_eq : Ideal.ofBits .f32 0x3F800000#32 = (1 : EReal) := by
  have h : Ideal.ofBits .f32 0x3F800000#32 = ((1 : ℝ) : EReal) := by
    simp [Ideal.ofBits, Ideal.ieee, -EReal.coe_mul, -EReal.coe_one]
    norm_num
  exact h

/-- A table's entry, which is a one or a zero. -/
theorem bit_eq (P : Prop) [Decidable P] : Ideal.ofBits .f32 (if P then 0x3F800000#32 else 0x00000000#32) = if P then (1 : EReal) else 0 := by
  by_cases h : P
  · rw [if_pos h, if_pos h, one_eq]
  · rw [if_neg h, if_neg h]
    simp [Ideal.ofBits, Ideal.ieee]

/-- The pattern of one plus the small constant. -/
theorem eps_eq : Ideal.ofBits .f32 0x3F800054#32 = ((2097173 / 2097152 : ℝ) : EReal) := by
  simp [Ideal.ofBits, Ideal.ieee, -EReal.coe_mul]; norm_num

/-- Its square root. -/
theorem root_lit : Ideal.sqrt (Ideal.ofBits .f32 0x3F800054#32) = root := by
  rw [eps_eq, Ideal.sqrt_coe, if_neg (by norm_num)]
  rfl

/-- A sum of nine, term by term. -/
theorem sum_nine (g : Fin 9 → EReal) : ∑ k, g k = g 0 + g 1 + g 2 + g 3 + g 4 + g 5 + g 6 + g 7 + g 8 := by
  simp only [Fin.sum_univ_castSucc, Finset.univ_eq_empty, Finset.sum_empty, zero_add]
  rfl

/-- The pooled image of example `b`. -/
def img (x0 : (⟨4, ![4096, 1, 28, 28]⟩ : Shape).Idx → EReal) (b : Fin 4096) : Fin 9 → Fin 9 → EReal :=
  pool fun i j => x0 (ix4 b 0 i j)

/-- Logit `o` of stage 1 of example `b`. -/
def s1 (x0 : (⟨4, ![4096, 1, 28, 28]⟩ : Shape).Idx → EReal) (x1 : (⟨4, ![20, 1, 3, 3]⟩ : Shape).Idx → EReal)
    (x2 x3 x4 : (⟨1, ![20]⟩ : Shape).Idx → EReal) (x5 : (⟨2, ![10, 180]⟩ : Shape).Idx → EReal)
    (x6 : (⟨1, ![10]⟩ : Shape).Idx → EReal) (b : Fin 4096) (o : Fin 10) : EReal :=
  logit1 (img x0 b) (fun c u v => x1 (ix4 c 0 u v)) (fun c => x2 (ix1 c)) (fun c => x3 (ix1 c)) (fun c => x4 (ix1 c))
    (fun f => x5 (ix2 o f)) (x6 (ix1 o))

/-- Logit `d` of stage 2 of example `b` by expert `e`. -/
def s2 (x0 : (⟨4, ![4096, 1, 28, 28]⟩ : Shape).Idx → EReal) (x7 : (⟨5, ![45, 15, 1, 5, 5]⟩ : Shape).Idx → EReal)
    (x8 x9 x10 : (⟨2, ![45, 15]⟩ : Shape).Idx → EReal) (x11 : (⟨3, ![45, 2, 60]⟩ : Shape).Idx → EReal)
    (x12 : (⟨2, ![45, 2]⟩ : Shape).Idx → EReal) (b : Fin 4096) (e : Fin 45) (d : Fin 2) : EReal :=
  logit2 (img x0 b) (fun c u v => x7 (ix5 e c 0 u v)) (fun c => x8 (ix2 e c)) (fun c => x9 (ix2 e c)) (fun c => x10 (ix2 e c))
    (fun f => x11 (ix3 e d f)) (x12 (ix2 e d))

/-- The row of the second result before its log-softmax: the pair's two logits at its two classes, −100 elsewhere. -/
def placed (p q : Fin 10) (u v : EReal) (k : Fin 10) : EReal :=
  if k = p then u else if k = q then v else Ideal.ofBits .f32 0xC2C80000#32

/-- The pooled image of real pixels is real. -/
theorem img_real (x0 : (⟨4, ![4096, 1, 28, 28]⟩ : Shape).Idx → EReal) (h : ∀ i, ∃ r : ℝ, x0 i = r) (b : Fin 4096) (i j : Fin 9) :
    ∃ r : ℝ, img x0 b i j = r := by
  choose v hv using h
  refine ⟨(∑ k : Fin 9, v (ix4 b 0 ⟨3 * i.val + k.val / 3, by omega⟩ ⟨3 * j.val + k.val % 3, by omega⟩)) * (1 / 9), ?_⟩
  unfold img pool
  simp only [hv]
  rw [EReal.coe_mul, coe_sum]

end Cert.Spec
-- ==== Proof.KHost.lean ====
/- The arrays that the kernel's host part hands to its windows, at an index, in terms of the arguments. -/
module

public import proofs.«01_k».proof.Proof.KPay
public import proofs.«01_k».proof.Proof.Tables
public import proofs.«01_k».proof.Proof.Goal
public import Idealize.ShloMosaic.Lib.Claim
public import Idealize.ShloMosaic.Lib.ValueIdxRank6
public import Idealize.ShloMosaic.Lib.StableHlo.ReadAt

@[expose] public section

set_option maxRecDepth 16384

noncomputable section

namespace Cert.KVal

open Cert.KernelIdeal Cert.KernelIdeal.Gen Cert.KernelIdeal.Value Idealize.ShloMosaic Idealize.ShloMosaic.TcCoe
  Idealize.SL.Sem Cert.Spec

variable (m : (ℓ : Loc nD τ sig) → Buf (Elt Ideal) ℓ) (c : Dev nD)

/-- Argument 0 as launched. -/
abbrev a0 : (⟨4, ![4096, 1, 28, 28]⟩ : Shape).Idx → EReal := m ((c : Thread nD τ).loc main_arg0)

/-- Argument 1 as launched. -/
abbrev a1 : (⟨4, ![20, 1, 3, 3]⟩ : Shape).Idx → EReal := m ((c : Thread nD τ).loc main_arg1)

/-- Argument 2 as launched. -/
abbrev a2 : (⟨1, ![20]⟩ : Shape).Idx → EReal := m ((c : Thread nD τ).loc main_arg2)

/-- Argument 3 as launched. -/
abbrev a3 : (⟨1, ![20]⟩ : Shape).Idx → EReal := m ((c : Thread nD τ).loc main_arg3)

/-- Argument 4 as launched. -/
abbrev a4 : (⟨1, ![20]⟩ : Shape).Idx → EReal := m ((c : Thread nD τ).loc main_arg4)

/-- Argument 5 as launched. -/
abbrev a5 : (⟨2, ![10, 180]⟩ : Shape).Idx → EReal := m ((c : Thread nD τ).loc main_arg5)

/-- Argument 6 as launched. -/
abbrev a6 : (⟨1, ![10]⟩ : Shape).Idx → EReal := m ((c : Thread nD τ).loc main_arg6)

/-- Argument 7 as launched. -/
abbrev a7 : (⟨5, ![45, 15, 1, 5, 5]⟩ : Shape).Idx → EReal := m ((c : Thread nD τ).loc main_arg7)

/-- Argument 8 as launched. -/
abbrev a8 : (⟨2, ![45, 15]⟩ : Shape).Idx → EReal := m ((c : Thread nD τ).loc main_arg8)

/-- Argument 9 as launched. -/
abbrev a9 : (⟨2, ![45, 15]⟩ : Shape).Idx → EReal := m ((c : Thread nD τ).loc main_arg9)

/-- Argument 10 as launched. -/
abbrev a10 : (⟨2, ![45, 15]⟩ : Shape).Idx → EReal := m ((c : Thread nD τ).loc main_arg10)

/-- Argument 11 as launched. -/
abbrev a11 : (⟨3, ![45, 2, 60]⟩ : Shape).Idx → EReal := m ((c : Thread nD τ).loc main_arg11)

/-- Argument 12 as launched. -/
abbrev a12 : (⟨2, ![45, 2]⟩ : Shape).Idx → EReal := m ((c : Thread nD τ).loc main_arg12)

/-- The pixel that tap `u` of the first filter meets, in shift `t` of the feature's window. -/
def place1 (p : Fin 9) (t : Fin 4) (u : Fin 9) : Fin 81 :=
  ⟨(2 * (p.val / 3) + t.val / 2 + u.val / 3) * 9 + (2 * (p.val % 3) + t.val % 2 + u.val % 3), by omega⟩

/-- The pixel that tap `u` of an expert's filter meets, in shift `t` of the feature's window. -/
def place2 (p : Fin 4) (t : Fin 4) (u : Fin 25) : Fin 81 :=
  ⟨(2 * (p.val / 2) + t.val / 2 + u.val / 5) * 9 + (2 * (p.val % 2) + t.val % 2 + u.val % 5), by omega⟩

/-- The first table at an index. -/
theorem table1 (t : Fin 4) (r : Fin 81) (z : Fin 1) (u p : Fin 9) :
    Ideal.ofBits .f32 (lit0 (S4x81x1x9x9.rowMajor (ix5 t r z u p))) = if r = place1 p t u then (1 : EReal) else 0 := by
  rw [show S4x81x1x9x9.rowMajor (ix5 t r z u p) = ⟨((t.val * 81 + r.val) * 9 + u.val) * 9 + p.val, by show _ < 26244; omega⟩ from Fin.ext (by
    rw [Shape.rowMajor_val_five]
    show (((t.val * 81 + r.val) * 1 + z.val) * 9 + u.val) * 9 + p.val = ((t.val * 81 + r.val) * 9 + u.val) * 9 + p.val
    omega), lit0_eq t r u p, bit_eq]
  simp only [Fin.ext_iff, place1]

/-- The second table at an index. -/
theorem table2 (t : Fin 4) (r : Fin 81) (z z' : Fin 1) (u : Fin 25) (p : Fin 4) :
    Ideal.ofBits .f32 (lit1 (S4x81x1x1x25x4.rowMajor (ix6 t r z z' u p))) = if r = place2 p t u then (1 : EReal) else 0 := by
  rw [show S4x81x1x1x25x4.rowMajor (ix6 t r z z' u p) = ⟨((t.val * 81 + r.val) * 25 + u.val) * 4 + p.val, by show _ < 32400; omega⟩ from Fin.ext (by
    rw [Shape.rowMajor_val_six]
    show ((((t.val * 81 + r.val) * 1 + z.val) * 1 + z'.val) * 25 + u.val) * 4 + p.val = ((t.val * 81 + r.val) * 25 + u.val) * 4 + p.val
    omega), lit1_eq t r u p, bit_eq]
  simp only [Fin.ext_iff, place2]

/-- The identity table at an index. -/
theorem table3 (e f : Fin 45) (z z' : Fin 1) :
    Ideal.ofBits .f32 (lit2 (S45x1x45x1.rowMajor (ix4 e z f z'))) = if e = f then (1 : EReal) else 0 := by
  rw [show S45x1x45x1.rowMajor (ix4 e z f z') = ⟨e.val * 45 + f.val, by show _ < 2025; omega⟩ from Fin.ext (by
    rw [Shape.rowMajor_val_four]
    show ((e.val * 1 + z.val) * 45 + f.val) * 1 + z'.val = e.val * 45 + f.val
    omega), lit2_eq e f, bit_eq]

/-- Summing the taps away. -/
theorem sum_taps (v : S4x81x45x15x25x4.Idx → EReal) (t : Fin 4) (r : Fin 81) (e : Fin 45) (c : Fin 15) (p : Fin 4) :
    Ideal.hostReduceAdd reducesTo_S4x81x45x15x25x4_S4x81x45x15x4_d4 v 0 (ix5 t r e c p) = ∑ u : Fin 25, v (ix6 t r e c u p) := by
  unfold Ideal.hostReduceAdd
  rw [zero_add]
  refine Finset.sum_filter_eq_sum_of_fiber _ (fun u : Fin 25 => (ix6 t r e c u p : S4x81x45x15x25x4.Idx)) (fun _ _ h => congrFun h 4) (fun i => ?_) v
  constructor
  · intro h
    refine ⟨i 4, ?_⟩
    funext a
    apply Fin.ext
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => rfl
    | ⟨5, _⟩ => exact (congrArg Fin.val (congrFun h 4)).symm
  · rintro ⟨u, rfl⟩
    funext a
    apply Fin.ext
    match a with
    | ⟨0, _⟩ => rfl
    | ⟨1, _⟩ => rfl
    | ⟨2, _⟩ => rfl
    | ⟨3, _⟩ => rfl
    | ⟨4, _⟩ => rfl

/-- The patches: pooling tap `k` of pooled pixel `r`. -/
theorem patch_at (b : Fin 4096) (k : Fin 9) (r : Fin 81) :
    V m c main_v4 (ix3 b k r) = a0 m c (ix4 b 0 ⟨3 * (r.val / 9) + k.val / 3, by omega⟩ ⟨3 * (r.val % 9) + k.val % 3, by omega⟩) := by
  unfold V
  after_reads_at
  refine congrArg (a0 m c) ?_
  idx_ext

/-- The first filter, spread over the pixels. -/
theorem w1_at (t : Fin 4) (r : Fin 81) (f : Fin 180) :
    V m c main_v11 (ix3 t r f) = ∑ u : Fin 9, (if r = place1 ⟨f.val % 9, by omega⟩ t u then (1 : EReal) else 0)
      * a1 m c (ix4 ⟨f.val / 9, by omega⟩ 0 ⟨u.val / 3, by omega⟩ ⟨u.val % 3, by omega⟩) := by
  unfold V
  after_reads_at
  exact Finset.sum_congr rfl fun u _ => congrArg (· * _) (table1 t r 0 u _)

/-- The first convolution's bias, per feature. -/
theorem cb1_at (f : Fin 180) : V m c main_v14 (ix2 0 f) = a2 m c (ix1 ⟨f.val / 9, by omega⟩) := by
  unfold V
  after_reads_at

/-- The first normalisation's weight, per feature. -/
theorem g1_at (f : Fin 180) : V m c main_v17 (ix2 0 f) = a3 m c (ix1 ⟨f.val / 9, by omega⟩) := by
  unfold V
  after_reads_at

/-- The first normalisation's bias, per feature. -/
theorem bb1_at (f : Fin 180) : V m c main_v20 (ix2 0 f) = a4 m c (ix1 ⟨f.val / 9, by omega⟩) := by
  unfold V
  after_reads_at

/-- The first stage's weights, turned round. -/
theorem fw1_at (f : Fin 180) (o : Fin 10) : V m c main_v22 (ix2 f o) = a5 m c (ix2 o f) := by
  unfold V
  after_reads_at

/-- The first stage's biases. -/
theorem fb1_at (o : Fin 10) : V m c main_v23 (ix2 0 o) = a6 m c (ix1 o) := by
  unfold V
  after_reads_at

/-- The experts' filters, scaled and spread over the pixels. -/
theorem w2_at (t : Fin 4) (r : Fin 81) (f : Fin 2700) :
    V m c main_v36 (ix3 t r f) = ∑ u : Fin 25, (if r = place2 ⟨f.val % 4, by omega⟩ t u then (1 : EReal) else 0)
      * (a7 m c (ix5 ⟨f.val / 60, by omega⟩ ⟨f.val / 4 % 15, by omega⟩ 0 ⟨u.val / 5, by omega⟩ ⟨u.val % 5, by omega⟩)
        * Ideal.div (a9 m c (ix2 ⟨f.val / 60, by omega⟩ ⟨f.val / 4 % 15, by omega⟩)) root) := by
  unfold V
  after_reads_at
  rw [sum_taps]
  pointwise
  simp only [root_lit]
  exact Finset.sum_congr rfl fun u _ => congrArg (· * _) (table2 t r 0 0 u _)

/-- The experts' biases, scaled, per feature. -/
theorem b2_at (f : Fin 2700) :
    V m c main_v42 (ix2 0 f) = a8 m c (ix2 ⟨f.val / 60, by omega⟩ ⟨f.val / 4 % 15, by omega⟩)
        * Ideal.div (a9 m c (ix2 ⟨f.val / 60, by omega⟩ ⟨f.val / 4 % 15, by omega⟩)) root
      + a10 m c (ix2 ⟨f.val / 60, by omega⟩ ⟨f.val / 4 % 15, by omega⟩) := by
  unfold V
  after_reads_at
  have e : (⟨f.val / 4 / 15, by omega⟩ : Fin 45) = ⟨f.val / 60, by omega⟩ := Fin.ext (by show f.val / 4 / 15 = f.val / 60; omega)
  simp only [e, root_lit]

/-- The experts' weights, block by block. -/
theorem g_at (f : Fin 2700) (n : Fin 90) :
    V m c main_v48 (ix2 f n) = (if (⟨f.val / 60, by omega⟩ : Fin 45) = ⟨n.val / 2, by omega⟩ then (1 : EReal) else 0)
      * a11 m c (ix3 ⟨f.val / 60, by omega⟩ ⟨n.val % 2, by omega⟩ ⟨f.val % 60, by omega⟩) := by
  unfold V
  after_reads_at
  rw [table3]

/-- The experts' biases of the logits. -/
theorem b90_at (n : Fin 90) : V m c main_v49 (ix2 0 n) = a12 m c (ix2 ⟨n.val / 2, by omega⟩ ⟨n.val % 2, by omega⟩) := by
  unfold V
  after_reads_at

end Cert.KVal
-- ==== Proof.KStage.lean ====
/- A row of the kernel's block is one example: its stage-1 logits and the columns of its stage-2 product. -/
module

public import proofs.«01_k».proof.Proof.KHost

@[expose] public section

set_option maxRecDepth 16384

noncomputable section

namespace Cert.KVal

open Cert.KernelIdeal Cert.KernelIdeal.Gen Cert.KernelIdeal.Value Idealize.ShloMosaic Idealize.ShloMosaic.TcCoe
  Idealize.SL.Sem Cert.Spec

/-- The order in which the block adds the nine patches does not matter. -/
theorem nine_order (a : Fin 9 → EReal) :
    ((a 0 + a 3) + a 6) + ((a 1 + a 4) + a 7) + ((a 2 + a 5) + a 8) = ∑ k, a k := by
  rw [sum_nine]
  abel

theorem nine_div (a b : ℕ) (h : b < 9) : (a * 9 + b) / 9 = a ∧ (a * 9 + b) % 9 = b := by omega

theorem place1_inj (p : Fin 9) (t : Fin 4) : Function.Injective (place1 p t) := fun u v h => by
  have e := Fin.ext_iff.1 h
  simp only [place1] at e
  apply Fin.ext
  omega

theorem place2_inj (p : Fin 4) (t : Fin 4) : Function.Injective (place2 p t) := fun u v h => by
  have e := Fin.ext_iff.1 h
  simp only [place2] at e
  apply Fin.ext
  omega

/-- The spread first filter against the pixels of a pooled image is the filter at the feature's window. -/
theorem spread1 (Q : Fin 9 → Fin 9 → EReal) (P : Fin 81 → EReal) (hP : ∀ q : Fin 81, P q = Q ⟨q.val / 9, by omega⟩ ⟨q.val % 9, by omega⟩)
    (W : Fin 3 → Fin 3 → EReal) (f : Fin 180) (t : Fin 4) :
    (∑ k : Fin 81, P k * ∑ u : Fin 9, (if k = place1 ⟨f.val % 9, by omega⟩ t u then (1 : EReal) else 0) * W ⟨u.val / 3, by omega⟩ ⟨u.val % 3, by omega⟩)
      = conv3 Q W ⟨2 * (f.val % 9 / 3) + t.val / 2, by omega⟩ ⟨2 * (f.val % 3) + t.val % 2, by omega⟩ := by
  rw [sum_place P (fun u : Fin 9 => W ⟨u.val / 3, by omega⟩ ⟨u.val % 3, by omega⟩) (place1 ⟨f.val % 9, by omega⟩ t) (place1_inj _ t) _ fun _ _ => rfl]
  unfold conv3
  refine Finset.sum_congr rfl fun u _ => congrArg (· * _) ?_
  rw [hP]
  refine congrArg₂ Q (Fin.ext ?_) (Fin.ext ?_)
  · exact (nine_div (2 * (f.val % 9 / 3) + t.val / 2 + u.val / 3) (2 * (f.val % 9 % 3) + t.val % 2 + u.val % 3) (by omega)).1
  · refine (nine_div (2 * (f.val % 9 / 3) + t.val / 2 + u.val / 3) (2 * (f.val % 9 % 3) + t.val % 2 + u.val % 3) (by omega)).2.trans ?_
    show 2 * (f.val % 9 % 3) + t.val % 2 + u.val % 3 = 2 * (f.val % 3) + t.val % 2 + u.val % 3
    have : f.val % 9 % 3 = f.val % 3 := by omega
    omega

/-- The spread filter of an expert against the pixels of a pooled image is the filter at the feature's window. -/
theorem spread2 (Q : Fin 9 → Fin 9 → EReal) (P : Fin 81 → EReal) (hP : ∀ q : Fin 81, P q = Q ⟨q.val / 9, by omega⟩ ⟨q.val % 9, by omega⟩)
    (W : Fin 25 → EReal) (f : Fin 60) (t : Fin 4) :
    (∑ k : Fin 81, P k * ∑ u : Fin 25, (if k = place2 ⟨f.val % 4, by omega⟩ t u then (1 : EReal) else 0) * W u)
      = ∑ u : Fin 25, Q ⟨2 * (f.val % 4 / 2) + t.val / 2 + u.val / 5, by omega⟩ ⟨2 * (f.val % 2) + t.val % 2 + u.val % 5, by omega⟩ * W u := by
  rw [sum_place P W (place2 ⟨f.val % 4, by omega⟩ t) (place2_inj _ t) _ fun _ _ => rfl]
  refine Finset.sum_congr rfl fun u _ => congrArg (· * _) ?_
  rw [hP]
  refine congrArg₂ Q (Fin.ext ?_) (Fin.ext ?_)
  · exact (nine_div (2 * (f.val % 4 / 2) + t.val / 2 + u.val / 5) (2 * (f.val % 4 % 2) + t.val % 2 + u.val % 5) (by omega)).1
  · refine (nine_div (2 * (f.val % 4 / 2) + t.val / 2 + u.val / 5) (2 * (f.val % 4 % 2) + t.val % 2 + u.val % 5) (by omega)).2.trans ?_
    show 2 * (f.val % 4 % 2) + t.val % 2 + u.val % 5 = 2 * (f.val % 2) + t.val % 2 + u.val % 5
    have : f.val % 4 % 2 = f.val % 2 := by omega
    omega

/-- The pooled row of the block is the pooled image of its example. -/
theorem row_img (x : Vec Ideal S256x9x81 .f32) (A : (⟨4, ![4096, 1, 28, 28]⟩ : Shape).Idx → EReal) (r : Fin 256) (b : Fin 4096)
    (h : ∀ (k : Fin 9) (q : Fin 81), x (ix3 r k q) = A (ix4 b 0 ⟨3 * (q.val / 9) + k.val / 3, by omega⟩ ⟨3 * (q.val % 9) + k.val % 3, by omega⟩)) (q : Fin 81) :
    k0_pay1 (F := Ideal) x (ix2 r q) = img A b ⟨q.val / 9, by omega⟩ ⟨q.val % 9, by omega⟩ := by
  rw [pay1_apply]
  unfold img Cert.Spec.pool
  refine congrArg (· * _) ?_
  rw [h, h, h, h, h, h, h, h, h]
  exact nine_order fun k => A (ix4 b 0 ⟨3 * (q.val / 9) + k.val / 3, by omega⟩ ⟨3 * (q.val % 9) + k.val % 3, by omega⟩)

variable (m : (ℓ : Loc nD τ sig) → Buf (Elt Ideal) ℓ) (c : Dev nD)

/-- Stage 1's logits of a row of the block. -/
theorem row_s1 (x : Vec Ideal S256x9x81 .f32) (x7 : Vec Ideal S4x81x2700 .bf16) (x8 : Vec Ideal S1x2700 .f32) (x9 : Vec Ideal S2700x90 .bf16) (x10 : Vec Ideal S1x90 .f32)
    (r : Fin 256) (b : Fin 4096)
    (h : ∀ (k : Fin 9) (q : Fin 81), x (ix3 r k q) = a0 m c (ix4 b 0 ⟨3 * (q.val / 9) + k.val / 3, by omega⟩ ⟨3 * (q.val % 9) + k.val % 3, by omega⟩)) (o : Fin 10) :
    k0_pay24 (F := Ideal) x (V m c main_v11) (V m c main_v14) (V m c main_v17) (V m c main_v20) (V m c main_v22) (V m c main_v23) x7 x8 x9 x10 (ix2 r o)
      = s1 (a0 m c) (a1 m c) (a2 m c) (a3 m c) (a4 m c) (a5 m c) (a6 m c) b o := by
  rw [pay24_apply]
  unfold s1 logit1 feats1 feat1
  refine congrArg₂ (· + ·) (Finset.sum_congr rfl fun f _ => congrArg₂ (· * ·) (congrArg top4 (funext fun t => ?_)) (fw1_at m c f o)) (fb1_at m c o)
  rw [cb1_at, g1_at, bb1_at]
  refine congrArg (fun z => bn (z + _) _ _) ?_
  refine Eq.trans (Finset.sum_congr rfl fun k _ => congrArg (_ * ·) (w1_at m c t k f)) ?_
  exact spread1 (img (a0 m c) b) _ (row_img x (a0 m c) r b h) (fun u v => a1 m c (ix4 ⟨f.val / 9, by omega⟩ 0 u v)) f t

/-- Stage 2's column of expert `e` and logit `d` of a row of the block. -/
theorem row_s2 (x : Vec Ideal S256x9x81 .f32) (r : Fin 256) (b : Fin 4096)
    (h : ∀ (k : Fin 9) (q : Fin 81), x (ix3 r k q) = a0 m c (ix4 b 0 ⟨3 * (q.val / 9) + k.val / 3, by omega⟩ ⟨3 * (q.val % 9) + k.val % 3, by omega⟩))
    (f0 : ∀ i, ∃ v : ℝ, a0 m c i = v) (f7 : ∀ i, ∃ v : ℝ, a7 m c i = v)
    (f9 : ∀ i, ∃ v : ℝ, a9 m c i = v) (e : Fin 45) (d : Fin 2) (n : Fin 90) (hn : n.val = 2 * e.val + d.val) :
    colOut x (V m c main_v36) (V m c main_v42) (V m c main_v48) (V m c main_v49) r n
      = s2 (a0 m c) (a7 m c) (a8 m c) (a9 m c) (a10 m c) (a11 m c) (a12 m c) b e d := by
  have n0 : (⟨n.val / 2, by omega⟩ : Fin 45) = e := Fin.ext (by show n.val / 2 = e.val; omega)
  have n1 : (⟨n.val % 2, by omega⟩ : Fin 2) = d := Fin.ext (by show n.val % 2 = d.val; omega)
  unfold colOut s2 logit2
  refine congrArg₂ (· + ·) ?_ ((b90_at m c n).trans (by rw [n0, n1]))
  have w : ∀ f : Fin 2700, V m c main_v48 (ix2 f n) = (if (⟨f.val / 60, by omega⟩ : Fin 45) = e then (1 : EReal) else 0)
      * (fun (e : Fin 45) (f : Fin 60) => a11 m c (ix3 e d f)) ⟨f.val / 60, by omega⟩ ⟨f.val % 60, by omega⟩ := fun f => by
    rw [g_at, n0, n1]
  refine Eq.trans (Finset.sum_congr rfl fun f _ => congrArg (_ * ·) (w f)) ?_
  refine (sum_block _ (fun (e : Fin 45) (f : Fin 60) => a11 m c (ix3 e d f)) e).trans ?_
  refine Finset.sum_congr rfl fun f _ => congrArg (· * _) ?_
  have k0 : (⟨(e.val * 60 + f.val) / 60, by omega⟩ : Fin 45) = e := Fin.ext (by show (e.val * 60 + f.val) / 60 = e.val; omega)
  have k1 : (⟨(e.val * 60 + f.val) / 4 % 15, by omega⟩ : Fin 15) = ⟨f.val / 4, by omega⟩ := Fin.ext (by show (e.val * 60 + f.val) / 4 % 15 = f.val / 4; omega)
  have k2 : (⟨(e.val * 60 + f.val) % 4, by omega⟩ : Fin 4) = ⟨f.val % 4, by omega⟩ := Fin.ext (by show (e.val * 60 + f.val) % 4 = f.val % 4; omega)
  have cv : ∀ t : Fin 4, (∑ k : Fin 81, k0_pay1 (F := Ideal) x (ix2 r k) * V m c main_v36 (ix3 t k ⟨e.val * 60 + f.val, by omega⟩))
      = ∑ u : Fin 25, img (a0 m c) b ⟨2 * (f.val % 4 / 2) + t.val / 2 + u.val / 5, by omega⟩ ⟨2 * (f.val % 2) + t.val % 2 + u.val % 5, by omega⟩
        * (a7 m c (ix5 e ⟨f.val / 4, by omega⟩ 0 ⟨u.val / 5, by omega⟩ ⟨u.val % 5, by omega⟩) * Ideal.div (a9 m c (ix2 e ⟨f.val / 4, by omega⟩)) root) := fun t => by
    refine Eq.trans (Finset.sum_congr rfl fun k _ => congrArg (_ * ·) (w2_at m c t k ⟨e.val * 60 + f.val, by omega⟩)) ?_
    simp only [k0, k1, k2]
    exact spread2 (img (a0 m c) b) _ (row_img x (a0 m c) r b h) _ f t
  have bv : V m c main_v42 (ix2 0 ⟨e.val * 60 + f.val, by omega⟩) = a8 m c (ix2 e ⟨f.val / 4, by omega⟩)
        * Ideal.div (a9 m c (ix2 e ⟨f.val / 4, by omega⟩)) root + a10 m c (ix2 e ⟨f.val / 4, by omega⟩) := by
    rw [b2_at]
    simp only [k0, k1]
  refine (top4_add (fun t => ∑ k : Fin 81, k0_pay1 (F := Ideal) x (ix2 r k) * V m c main_v36 (ix3 t k ⟨e.val * 60 + f.val, by omega⟩))
    (V m c main_v42 (ix2 0 ⟨e.val * 60 + f.val, by omega⟩))).trans ?_
  unfold feats2 feat2
  refine congrArg top4 (funext fun t => ?_)
  rw [cv, bv]
  exact scaled_conv 25 _ (fun u => a7 m c (ix5 e ⟨f.val / 4, by omega⟩ 0 ⟨u.val / 5, by omega⟩ ⟨u.val % 5, by omega⟩)) _ _ _
    (fun _ => img_real (a0 m c) f0 b _ _) (fun _ => f7 _) (f9 _)

end Cert.KVal
-- ==== Proof.KBlocks.lean ====
/- The kernel's three result arrays after its run, as functions of the argument arrays. -/
module

public import proofs.«01_k».proof.Proof.KStage

@[expose] public section

set_option maxRecDepth 16384

noncomputable section

namespace Cert.KVal

open Cert.KernelIdeal Cert.KernelIdeal.Gen Cert.KernelIdeal.Value Idealize.ShloMosaic Idealize.ShloMosaic.TcCoe
  Idealize.SL.Sem Cert.Spec

variable (m : (ℓ : Loc nD τ sig) → Buf (Elt Ideal) ℓ) (ρ : Dev nD → PrngReg) (c : Dev nD)

theorem points (t : Fin cfg0.N) : t.val < 16 := (by decide +kernel : ∀ t : Fin grid0.N, t.val < 16) t

/-- The example that row `r` of the block of point `t` is. -/
def ex (t : Fin cfg0.N) (r : Fin 256) : Fin 4096 := ⟨256 * t.val + r.val, by have := points t; omega⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The block of patches at a point: rows of the patch array. -/
theorem block0 (t : Fin cfg0.N) (r : Fin 256) (k : Fin 9) (q : Fin 81) :
    (iblk m c 0 t : Vec Ideal S256x9x81 .f32) (ix3 r k q) = a0 m c (ix4 (ex t r) 0 ⟨3 * (q.val / 9) + k.val / 3, by omega⟩ ⟨3 * (q.val % 9) + k.val % 3, by omega⟩) := by
  show V m c main_v4 (((cfg0.win 0).blk t).view.emb (ix3 r k q)) = _
  have e : ((cfg0.win 0).blk t).view.emb (ix3 r k q) = ix3 (ex t r) k q := by
    obtain ⟨e0, e1, e2⟩ := idx0 t
    funext a; apply Fin.ext
    match a with
    | ⟨0, _⟩ => show win0_0.index t (0 : Fin 3) * 256 + 1 * r.val = 256 * t.val + r.val; omega
    | ⟨1, _⟩ => show win0_0.index t (1 : Fin 3) * 9 + 1 * k.val = k.val; omega
    | ⟨2, _⟩ => show win0_0.index t (2 : Fin 3) * 81 + 1 * q.val = q.val; omega
  rw [e]
  exact patch_at m c (ex t r) k q

/-- The first filter, spread: one block, the whole array. -/
theorem block1 (t : Fin cfg0.N) : iblk m c 1 t = V m c main_v11 := by
  funext j
  show V m c main_v11 (((cfg0.win 1).blk t).view.emb j) = V m c main_v11 j
  have e : ((cfg0.win 1).blk t).view.emb j = j := by
    obtain ⟨e0, e1, e2⟩ := (by decide +kernel : ∀ t : Fin grid0.N, win0_1.index t (0 : Fin 3) = 0 ∧ win0_1.index t (1 : Fin 3) = 0 ∧ win0_1.index t (2 : Fin 3) = 0) t
    funext a; apply Fin.ext
    match a with
    | ⟨0, _⟩ => show win0_1.index t (0 : Fin 3) * 4 + 1 * (j 0).val = (j 0).val; omega
    | ⟨1, _⟩ => show win0_1.index t (1 : Fin 3) * 81 + 1 * (j 1).val = (j 1).val; omega
    | ⟨2, _⟩ => show win0_1.index t (2 : Fin 3) * 180 + 1 * (j 2).val = (j 2).val; omega
  rw [e]

/-- The first bias: one block, the whole array. -/
theorem block2 (t : Fin cfg0.N) : iblk m c 2 t = V m c main_v14 := by
  funext j
  show V m c main_v14 (((cfg0.win 2).blk t).view.emb j) = V m c main_v14 j
  have e : ((cfg0.win 2).blk t).view.emb j = j := by
    obtain ⟨e0, e1⟩ := (by decide +kernel : ∀ t : Fin grid0.N, win0_2.index t (0 : Fin 2) = 0 ∧ win0_2.index t (1 : Fin 2) = 0) t
    funext a; apply Fin.ext
    match a with
    | ⟨0, _⟩ => show win0_2.index t (0 : Fin 2) * 1 + 1 * (j 0).val = (j 0).val; omega
    | ⟨1, _⟩ => show win0_2.index t (1 : Fin 2) * 180 + 1 * (j 1).val = (j 1).val; omega
  rw [e]

/-- The first scale: one block, the whole array. -/
theorem block3 (t : Fin cfg0.N) : iblk m c 3 t = V m c main_v17 := by
  funext j
  show V m c main_v17 (((cfg0.win 3).blk t).view.emb j) = V m c main_v17 j
  have e : ((cfg0.win 3).blk t).view.emb j = j := by
    obtain ⟨e0, e1⟩ := (by decide +kernel : ∀ t : Fin grid0.N, win0_3.index t (0 : Fin 2) = 0 ∧ win0_3.index t (1 : Fin 2) = 0) t
    funext a; apply Fin.ext
    match a with
    | ⟨0, _⟩ => show win0_3.index t (0 : Fin 2) * 1 + 1 * (j 0).val = (j 0).val; omega
    | ⟨1, _⟩ => show win0_3.index t (1 : Fin 2) * 180 + 1 * (j 1).val = (j 1).val; omega
  rw [e]

/-- The first shift: one block, the whole array. -/
theorem block4 (t : Fin cfg0.N) : iblk m c 4 t = V m c main_v20 := by
  funext j
  show V m c main_v20 (((cfg0.win 4).blk t).view.emb j) = V m c main_v20 j
  have e : ((cfg0.win 4).blk t).view.emb j = j := by
    obtain ⟨e0, e1⟩ := (by decide +kernel : ∀ t : Fin grid0.N, win0_4.index t (0 : Fin 2) = 0 ∧ win0_4.index t (1 : Fin 2) = 0) t
    funext a; apply Fin.ext
    match a with
    | ⟨0, _⟩ => show win0_4.index t (0 : Fin 2) * 1 + 1 * (j 0).val = (j 0).val; omega
    | ⟨1, _⟩ => show win0_4.index t (1 : Fin 2) * 180 + 1 * (j 1).val = (j 1).val; omega
  rw [e]

/-- The first linear layer: one block, the whole array. -/
theorem block5 (t : Fin cfg0.N) : iblk m c 5 t = V m c main_v22 := by
  funext j
  show V m c main_v22 (((cfg0.win 5).blk t).view.emb j) = V m c main_v22 j
  have e : ((cfg0.win 5).blk t).view.emb j = j := by
    obtain ⟨e0, e1⟩ := (by decide +kernel : ∀ t : Fin grid0.N, win0_5.index t (0 : Fin 2) = 0 ∧ win0_5.index t (1 : Fin 2) = 0) t
    funext a; apply Fin.ext
    match a with
    | ⟨0, _⟩ => show win0_5.index t (0 : Fin 2) * 180 + 1 * (j 0).val = (j 0).val; omega
    | ⟨1, _⟩ => show win0_5.index t (1 : Fin 2) * 10 + 1 * (j 1).val = (j 1).val; omega
  rw [e]

/-- The first linear bias: one block, the whole array. -/
theorem block6 (t : Fin cfg0.N) : iblk m c 6 t = V m c main_v23 := by
  funext j
  show V m c main_v23 (((cfg0.win 6).blk t).view.emb j) = V m c main_v23 j
  have e : ((cfg0.win 6).blk t).view.emb j = j := by
    obtain ⟨e0, e1⟩ := (by decide +kernel : ∀ t : Fin grid0.N, win0_6.index t (0 : Fin 2) = 0 ∧ win0_6.index t (1 : Fin 2) = 0) t
    funext a; apply Fin.ext
    match a with
    | ⟨0, _⟩ => show win0_6.index t (0 : Fin 2) * 1 + 1 * (j 0).val = (j 0).val; omega
    | ⟨1, _⟩ => show win0_6.index t (1 : Fin 2) * 10 + 1 * (j 1).val = (j 1).val; omega
  rw [e]

/-- The experts' filters, spread: one block, the whole array. -/
theorem block7 (t : Fin cfg0.N) : iblk m c 7 t = V m c main_v36 := by
  funext j
  show V m c main_v36 (((cfg0.win 7).blk t).view.emb j) = V m c main_v36 j
  have e : ((cfg0.win 7).blk t).view.emb j = j := by
    obtain ⟨e0, e1, e2⟩ := (by decide +kernel : ∀ t : Fin grid0.N, win0_7.index t (0 : Fin 3) = 0 ∧ win0_7.index t (1 : Fin 3) = 0 ∧ win0_7.index t (2 : Fin 3) = 0) t
    funext a; apply Fin.ext
    match a with
    | ⟨0, _⟩ => show win0_7.index t (0 : Fin 3) * 4 + 1 * (j 0).val = (j 0).val; omega
    | ⟨1, _⟩ => show win0_7.index t (1 : Fin 3) * 81 + 1 * (j 1).val = (j 1).val; omega
    | ⟨2, _⟩ => show win0_7.index t (2 : Fin 3) * 2700 + 1 * (j 2).val = (j 2).val; omega
  rw [e]

/-- The experts' bias: one block, the whole array. -/
theorem block8 (t : Fin cfg0.N) : iblk m c 8 t = V m c main_v42 := by
  funext j
  show V m c main_v42 (((cfg0.win 8).blk t).view.emb j) = V m c main_v42 j
  have e : ((cfg0.win 8).blk t).view.emb j = j := by
    obtain ⟨e0, e1⟩ := (by decide +kernel : ∀ t : Fin grid0.N, win0_8.index t (0 : Fin 2) = 0 ∧ win0_8.index t (1 : Fin 2) = 0) t
    funext a; apply Fin.ext
    match a with
    | ⟨0, _⟩ => show win0_8.index t (0 : Fin 2) * 1 + 1 * (j 0).val = (j 0).val; omega
    | ⟨1, _⟩ => show win0_8.index t (1 : Fin 2) * 2700 + 1 * (j 1).val = (j 1).val; omega
  rw [e]

/-- The experts' linear layers, laid out: one block, the whole array. -/
theorem block9 (t : Fin cfg0.N) : iblk m c 9 t = V m c main_v48 := by
  funext j
  show V m c main_v48 (((cfg0.win 9).blk t).view.emb j) = V m c main_v48 j
  have e : ((cfg0.win 9).blk t).view.emb j = j := by
    obtain ⟨e0, e1⟩ := (by decide +kernel : ∀ t : Fin grid0.N, win0_9.index t (0 : Fin 2) = 0 ∧ win0_9.index t (1 : Fin 2) = 0) t
    funext a; apply Fin.ext
    match a with
    | ⟨0, _⟩ => show win0_9.index t (0 : Fin 2) * 2700 + 1 * (j 0).val = (j 0).val; omega
    | ⟨1, _⟩ => show win0_9.index t (1 : Fin 2) * 90 + 1 * (j 1).val = (j 1).val; omega
  rw [e]

/-- The experts' linear bias: one block, the whole array. -/
theorem block10 (t : Fin cfg0.N) : iblk m c 10 t = V m c main_v49 := by
  funext j
  show V m c main_v49 (((cfg0.win 10).blk t).view.emb j) = V m c main_v49 j
  have e : ((cfg0.win 10).blk t).view.emb j = j := by
    obtain ⟨e0, e1⟩ := (by decide +kernel : ∀ t : Fin grid0.N, win0_10.index t (0 : Fin 2) = 0 ∧ win0_10.index t (1 : Fin 2) = 0) t
    funext a; apply Fin.ext
    match a with
    | ⟨0, _⟩ => show win0_10.index t (0 : Fin 2) * 1 + 1 * (j 0).val = (j 0).val; omega
    | ⟨1, _⟩ => show win0_10.index t (1 : Fin 2) * 90 + 1 * (j 1).val = (j 1).val; omega
  rw [e]

theorem emb11 (t : Fin cfg0.N) (r : Fin 256) (o : Fin 10) : ((cfg0.win 11).blk t).view.emb (ix2 r o) = ix2 (ex t r) o := by
  obtain ⟨e0, e1⟩ := (by decide +kernel : ∀ t : Fin grid0.N, win0_11.index t (0 : Fin 2) = t.val ∧ win0_11.index t (1 : Fin 2) = 0) t
  funext a; apply Fin.ext
  match a with
  | ⟨0, _⟩ => show win0_11.index t (0 : Fin 2) * 256 + 1 * r.val = 256 * t.val + r.val; omega
  | ⟨1, _⟩ => show win0_11.index t (1 : Fin 2) * 10 + 1 * o.val = o.val; omega

theorem covered11 (i : S4096x10.Idx) : ∃ t : Fin cfg0.N, (cfg0.win 11).flush t = true ∧ i ∈ ((cfg0.win 11).blk t).view.set := by
  have h0 : (i 0).val < 4096 := (i 0).isLt
  refine ⟨(⟨(i 0).val / 256, by show _ < 16; omega⟩ : Fin cfg0.N), flush0_11 _, ?_⟩
  have h := ((cfg0.win 11).blk (⟨(i 0).val / 256, by show _ < 16; omega⟩ : Fin cfg0.N)).view.emb_mem_set (ix2 (⟨(i 0).val % 256, by omega⟩ : Fin 256) (⟨(i 1).val, (i 1).isLt⟩ : Fin 10))
  rw [emb11] at h
  have e : (ix2 (ex ⟨(i 0).val / 256, by show _ < 16; omega⟩ ⟨(i 0).val % 256, by omega⟩) ⟨(i 1).val, (i 1).isLt⟩ : S4096x10.Idx) = i := by
    funext a; apply Fin.ext
    match a with
    | ⟨0, _⟩ => show 256 * ((i 0).val / 256) + (i 0).val % 256 = (i 0).val; omega
    | ⟨1, _⟩ => rfl
  rwa [e] at h

theorem emb12 (t : Fin cfg0.N) (r : Fin 256) (o : Fin 10) : ((cfg0.win 12).blk t).view.emb (ix2 r o) = ix2 (ex t r) o := by
  obtain ⟨e0, e1⟩ := (by decide +kernel : ∀ t : Fin grid0.N, win0_12.index t (0 : Fin 2) = t.val ∧ win0_12.index t (1 : Fin 2) = 0) t
  funext a; apply Fin.ext
  match a with
  | ⟨0, _⟩ => show win0_12.index t (0 : Fin 2) * 256 + 1 * r.val = 256 * t.val + r.val; omega
  | ⟨1, _⟩ => show win0_12.index t (1 : Fin 2) * 10 + 1 * o.val = o.val; omega

theorem covered12 (i : S4096x10.Idx) : ∃ t : Fin cfg0.N, (cfg0.win 12).flush t = true ∧ i ∈ ((cfg0.win 12).blk t).view.set := by
  have h0 : (i 0).val < 4096 := (i 0).isLt
  refine ⟨(⟨(i 0).val / 256, by show _ < 16; omega⟩ : Fin cfg0.N), flush0_12 _, ?_⟩
  have h := ((cfg0.win 12).blk (⟨(i 0).val / 256, by show _ < 16; omega⟩ : Fin cfg0.N)).view.emb_mem_set (ix2 (⟨(i 0).val % 256, by omega⟩ : Fin 256) (⟨(i 1).val, (i 1).isLt⟩ : Fin 10))
  rw [emb12] at h
  have e : (ix2 (ex ⟨(i 0).val / 256, by show _ < 16; omega⟩ ⟨(i 0).val % 256, by omega⟩) ⟨(i 1).val, (i 1).isLt⟩ : S4096x10.Idx) = i := by
    funext a; apply Fin.ext
    match a with
    | ⟨0, _⟩ => show 256 * ((i 0).val / 256) + (i 0).val % 256 = (i 0).val; omega
    | ⟨1, _⟩ => rfl
  rwa [e] at h

theorem emb13 (t : Fin cfg0.N) (r : Fin 256) (o : Fin 2) : ((cfg0.win 13).blk t).view.emb (ix2 r o) = ix2 (ex t r) o := by
  obtain ⟨e0, e1⟩ := (by decide +kernel : ∀ t : Fin grid0.N, win0_13.index t (0 : Fin 2) = t.val ∧ win0_13.index t (1 : Fin 2) = 0) t
  funext a; apply Fin.ext
  match a with
  | ⟨0, _⟩ => show win0_13.index t (0 : Fin 2) * 256 + 1 * r.val = 256 * t.val + r.val; omega
  | ⟨1, _⟩ => show win0_13.index t (1 : Fin 2) * 2 + 1 * o.val = o.val; omega

theorem covered13 (i : S4096x2.Idx) : ∃ t : Fin cfg0.N, (cfg0.win 13).flush t = true ∧ i ∈ ((cfg0.win 13).blk t).view.set := by
  have h0 : (i 0).val < 4096 := (i 0).isLt
  refine ⟨(⟨(i 0).val / 256, by show _ < 16; omega⟩ : Fin cfg0.N), flush0_13 _, ?_⟩
  have h := ((cfg0.win 13).blk (⟨(i 0).val / 256, by show _ < 16; omega⟩ : Fin cfg0.N)).view.emb_mem_set (ix2 (⟨(i 0).val % 256, by omega⟩ : Fin 256) (⟨(i 1).val, (i 1).isLt⟩ : Fin 2))
  rw [emb13] at h
  have e : (ix2 (ex ⟨(i 0).val / 256, by show _ < 16; omega⟩ ⟨(i 0).val % 256, by omega⟩) ⟨(i 1).val, (i 1).isLt⟩ : S4096x2.Idx) = i := by
    funext a; apply Fin.ext
    match a with
    | ⟨0, _⟩ => show 256 * ((i 0).val / 256) + (i 0).val % 256 = (i 0).val; omega
    | ⟨1, _⟩ => rfl
  rwa [e] at h

/-- The first result: stage 1's logits. -/
def G11 : Vec Ideal S4096x10 .f32 := fun i => s1 (a0 m c) (a1 m c) (a2 m c) (a3 m c) (a4 m c) (a5 m c) (a6 m c) (i 0) (i 1)

/-- The second result, when the two largest logits of example `b` are those of classes `p b < q b`. -/
def G12 (p q : Fin 4096 → Fin 10) (h : ∀ b, p b < q b) : Vec Ideal S4096x10 .f32 := fun i =>
  lsm (placed (p (i 0)) (q (i 0)) (s2 (a0 m c) (a7 m c) (a8 m c) (a9 m c) (a10 m c) (a11 m c) (a12 m c) (i 0) ⟨pairIdx (p (i 0)) (q (i 0)), pairIdx_lt _ _ (h _)⟩ 0)
    (s2 (a0 m c) (a7 m c) (a8 m c) (a9 m c) (a10 m c) (a11 m c) (a12 m c) (i 0) ⟨pairIdx (p (i 0)) (q (i 0)), pairIdx_lt _ _ (h _)⟩ 1)) (i 1)

/-- The words of a pair of classes, the first one first. -/
def pairWord (p q : Fin 10) (d : Fin 2) : BitVec 32 := if d = 0 then BitVec.ofNat 32 p.val else BitVec.ofNat 32 q.val

/-- The third result: the two classes. -/
def G13 (p q : Fin 4096 → Fin 10) : IVec S4096x2 32 := fun i => pairWord (p (i 0)) (q (i 0)) (i 1)

theorem logits_row (t : Fin cfg0.N) (r : Fin 256) (o : Fin 10) :
    k0_pay24 (F := Ideal) (iblk m c 0 t) (V m c main_v11) (V m c main_v14) (V m c main_v17) (V m c main_v20) (V m c main_v22) (V m c main_v23)
      (V m c main_v36) (V m c main_v42) (V m c main_v48) (V m c main_v49) (ix2 r o)
      = s1 (a0 m c) (a1 m c) (a2 m c) (a3 m c) (a4 m c) (a5 m c) (a6 m c) (ex t r) o :=
  row_s1 m c (iblk m c 0 t) _ _ _ _ r (ex t r) (block0 m c t r) o

theorem final11 : (dats m 0 c).arrAt 11 cfg0.N = G11 m c := by
  refine (dats m 0 c).arrAt_eq_of_cover 11 (G11 m c) (fun t _ => ?_) covered11
  rw [flushed11, block1, block2, block3, block4, block5, block6, block7, block8, block9, block10, out11_apply]
  funext j
  obtain ⟨r, o, rfl⟩ : ∃ (r : Fin 256) (o : Fin 10), j = ix2 r o := ⟨j 0, j 1, by idx_ext⟩
  refine (logits_row m c t r o).trans ?_
  show _ = G11 m c (((cfg0.win 11).blk t).view.emb (ix2 r o))
  rw [emb11]
  rfl

variable (p q : Fin 4096 → Fin 10)
  (D : ∀ b, Dom (s1 (a0 m c) (a1 m c) (a2 m c) (a3 m c) (a4 m c) (a5 m c) (a6 m c) b) (p b) (q b))
  (hs : ∀ b o, s1 (a0 m c) (a1 m c) (a2 m c) (a3 m c) (a4 m c) (a5 m c) (a6 m c) b o ≠ ⊥)
include D hs

theorem final12 (f0 : ∀ i, ∃ v : ℝ, a0 m c i = v) (f7 : ∀ i, ∃ v : ℝ, a7 m c i = v)
    (f9 : ∀ i, ∃ v : ℝ, a9 m c i = v) :
    (dats m 0 c).arrAt 12 cfg0.N = G12 m c p q fun b => (D b).1 := by
  refine (dats m 0 c).arrAt_eq_of_cover 12 (G12 m c p q fun b => (D b).1) (fun t _ => ?_) covered12
  rw [flushed12, block1, block2, block3, block4, block5, block6, block7, block8, block9, block10]
  funext j
  obtain ⟨r, o, rfl⟩ : ∃ (r : Fin 256) (o : Fin 10), j = ix2 r o := ⟨j 0, j 1, by idx_ext⟩
  have L := fun o => logits_row m c t r o
  refine (out12_apply (iblk m c 0 t) (V m c main_v11) (V m c main_v14) (V m c main_v17) (V m c main_v20) (V m c main_v22) (V m c main_v23)
      (V m c main_v36) (V m c main_v42) (V m c main_v48) (V m c main_v49) r (p (ex t r)) (q (ex t r)) (by rw [funext L]; exact D _) (fun o => by rw [L]; exact hs _ _) o).trans ?_
  show _ = G12 m c p q (fun b => (D b).1) (((cfg0.win 12).blk t).view.emb (ix2 r o))
  rw [emb12]
  rw [row_s2 m c (iblk m c 0 t) r (ex t r) (block0 m c t r) f0 f7 f9 ⟨pairIdx (p (ex t r)) (q (ex t r)), pairIdx_lt _ _ (D _).1⟩ 0 _ rfl,
    row_s2 m c (iblk m c 0 t) r (ex t r) (block0 m c t r) f0 f7 f9 ⟨pairIdx (p (ex t r)) (q (ex t r)), pairIdx_lt _ _ (D _).1⟩ 1 _ rfl]
  rfl

theorem final13 : (dats m 0 c).arrAt 13 cfg0.N = G13 p q := by
  refine (dats m 0 c).arrAt_eq_of_cover 13 (G13 p q) (fun t _ => ?_) covered13
  rw [flushed13, block1, block2, block3, block4, block5, block6, block7, block8, block9, block10]
  funext j
  obtain ⟨r, d, rfl⟩ : ∃ (r : Fin 256) (d : Fin 2), j = ix2 r d := ⟨j 0, j 1, by idx_ext⟩
  have L := fun o => logits_row m c t r o
  obtain ⟨w0, w1⟩ := picks_eq _ (p (ex t r)) (q (ex t r)) (D (ex t r)) (hs (ex t r))
  refine (out13_apply (iblk m c 0 t) (V m c main_v11) (V m c main_v14) (V m c main_v17) (V m c main_v20) (V m c main_v22) (V m c main_v23)
      (V m c main_v36) (V m c main_v42) (V m c main_v48) (V m c main_v49) r d).trans ?_
  rw [pay26_apply, pay27_apply]
  simp only [L]
  rw [w0, w1]
  show _ = G13 p q (((cfg0.win 13).blk t).view.emb (ix2 r d))
  rw [emb13]
  rfl

end Cert.KVal
-- ==== Proof.RefStage1.lean ====
/- The reference's first stage: pooling, convolution, batch norm, ReLU, max pool, linear layer. -/
module

public import proofs.«01_k».proof.Proof.Goal
public import proofs.«01_k».proof.Proof.Gen.ReferenceIdeal.Read
public import Idealize.ShloMosaic.Lib.Pointwise

@[expose] public section

set_option maxRecDepth 16384

noncomputable section

namespace Cert.RVal

open Cert.ReferenceIdeal Cert.ReferenceIdeal.Gen Cert.ReferenceIdeal.Read Idealize.ShloMosaic Idealize.ShloMosaic.TcCoe Cert.Spec

/-- Adding up a list from a start. -/
theorem fold_add {ι : Type} (g : ι → EReal) (l : List ι) : ∀ z, l.foldl (fun r k => r + g k) z = z + (l.map g).sum := by
  induction l with
  | nil => simp
  | cons a l ih => intro z; simp [ih, add_assoc]

theorem taps3 : ∀ n : Fin (⟨4, ![1, 1, 3, 3]⟩ : Shape).numel,
    ((⟨4, ![1, 1, 3, 3]⟩ : Shape).rowMajor.symm n 0).val = 0 ∧ ((⟨4, ![1, 1, 3, 3]⟩ : Shape).rowMajor.symm n 1).val = 0
      ∧ ((⟨4, ![1, 1, 3, 3]⟩ : Shape).rowMajor.symm n 2).val = n.val / 3
      ∧ ((⟨4, ![1, 1, 3, 3]⟩ : Shape).rowMajor.symm n 3).val = n.val % 3 := by decide +kernel

theorem taps2 : ∀ n : Fin (⟨4, ![1, 1, 2, 2]⟩ : Shape).numel,
    ((⟨4, ![1, 1, 2, 2]⟩ : Shape).rowMajor.symm n 0).val = 0 ∧ ((⟨4, ![1, 1, 2, 2]⟩ : Shape).rowMajor.symm n 1).val = 0
      ∧ ((⟨4, ![1, 1, 2, 2]⟩ : Shape).rowMajor.symm n 2).val = n.val / 2
      ∧ ((⟨4, ![1, 1, 2, 2]⟩ : Shape).rowMajor.symm n 3).val = n.val % 2 := by decide +kernel

/-- A window of stride its own size without padding reads the `m × m` patch. -/
theorem window_read {α : Type} (f : α → α → α) (m B C H L H' L' N : ℕ)
    (hN : (⟨4, ![1, 1, m, m]⟩ : Shape).numel = N)
    (ht : ∀ n : Fin (⟨4, ![1, 1, m, m]⟩ : Shape).numel,
      ((⟨4, ![1, 1, m, m]⟩ : Shape).rowMajor.symm n 0).val = 0 ∧ ((⟨4, ![1, 1, m, m]⟩ : Shape).rowMajor.symm n 1).val = 0
      ∧ ((⟨4, ![1, 1, m, m]⟩ : Shape).rowMajor.symm n 2).val = n.val / m
      ∧ ((⟨4, ![1, 1, m, m]⟩ : Shape).rowMajor.symm n 3).val = n.val % m)
    (x : (⟨4, ![B, C, H, L]⟩ : Shape).Idx → α) (init : (⟨0, ![]⟩ : Shape).Idx → α) (h hu) (b : Fin B) (c : Fin C) (i : Fin H') (j : Fin L')
    (hi : ∀ k : Fin N, m * i.val + k.val / m < H) (hj : ∀ k : Fin N, m * j.val + k.val % m < L) :
    Host.reduceWindow (s := ⟨4, ![B, C, H, L]⟩) (t := ⟨4, ![B, C, H', L']⟩) f ![1, 1, m, m] ![1, 1, m, m] ![0, 0, 0, 0] ![0, 0, 0, 0] x init h hu (ix4 b c i j)
      = (List.finRange N).foldl (fun r k => f r (x (ix4 b c ⟨m * i.val + k.val / m, hi k⟩ ⟨m * j.val + k.val % m, hj k⟩)))
          (init (Shape.Idx.first hu)) := by
  subst hN
  unfold Host.reduceWindow
  refine congrArg (fun g => List.foldl g _ _) ?_
  funext r n
  refine congrArg (f r) ?_
  obtain ⟨t0, t1, t2, t3⟩ := ht n
  have e0 : ((ix4 b c i j : (⟨4, ![B, C, H', L']⟩ : Shape).Idx) 0).val * 1 + ((⟨4, ![1, 1, m, m]⟩ : Shape).rowMajor.symm n 0).val = b.val := by
    rw [t0]; show b.val * 1 + 0 = b.val; omega
  have e1 : ((ix4 b c i j : (⟨4, ![B, C, H', L']⟩ : Shape).Idx) 1).val * 1 + ((⟨4, ![1, 1, m, m]⟩ : Shape).rowMajor.symm n 1).val = c.val := by
    rw [t1]; show c.val * 1 + 0 = c.val; omega
  have e2 : ((ix4 b c i j : (⟨4, ![B, C, H', L']⟩ : Shape).Idx) 2).val * m + ((⟨4, ![1, 1, m, m]⟩ : Shape).rowMajor.symm n 2).val = m * i.val + n.val / m := by
    rw [t2]; show i.val * m + _ = _; rw [Nat.mul_comm]
  have e3 : ((ix4 b c i j : (⟨4, ![B, C, H', L']⟩ : Shape).Idx) 3).val * m + ((⟨4, ![1, 1, m, m]⟩ : Shape).rowMajor.symm n 3).val = m * j.val + n.val % m := by
    rw [t3]; show j.val * m + _ = _; rw [Nat.mul_comm]
  rw [dif_pos]
  · refine congrArg x ?_
    funext a
    apply Fin.ext
    match a with
    | ⟨0, _⟩ => exact (Nat.sub_zero _).trans e0
    | ⟨1, _⟩ => exact (Nat.sub_zero _).trans e1
    | ⟨2, _⟩ => exact (Nat.sub_zero _).trans e2
    | ⟨3, _⟩ => exact (Nat.sub_zero _).trans e3
  · intro a
    refine ⟨?_, ?_⟩
    · match a with
      | ⟨0, _⟩ => exact Nat.zero_le _
      | ⟨1, _⟩ => exact Nat.zero_le _
      | ⟨2, _⟩ => exact Nat.zero_le _
      | ⟨3, _⟩ => exact Nat.zero_le _
    · match a with
      | ⟨0, _⟩ => exact lt_of_eq_of_lt ((Nat.sub_zero _).trans e0) b.isLt
      | ⟨1, _⟩ => exact lt_of_eq_of_lt ((Nat.sub_zero _).trans e1) c.isLt
      | ⟨2, _⟩ => exact lt_of_eq_of_lt ((Nat.sub_zero _).trans e2) (hi n)
      | ⟨3, _⟩ => exact lt_of_eq_of_lt ((Nat.sub_zero _).trans e3) (hj n)

/-- The pattern of zero. -/
theorem zero_eq : Ideal.ofBits .f32 0x00000000#32 = (0 : EReal) := by simp [Ideal.ofBits, Ideal.ieee]

/-- The pattern of minus infinity. -/
theorem ninf_eq : Ideal.ofBits .f32 0xFF800000#32 = (⊥ : EReal) := by simp [Ideal.ofBits, Ideal.ieee]

/-- The pattern of nine. -/
theorem nine_eq : Ideal.ofBits .f32 0x41100000#32 = ((9 : ℝ) : EReal) := by
  simp [Ideal.ofBits, Ideal.ieee, -EReal.coe_mul]; norm_num

/-- The reference's pooled image. -/
theorem v3_eq (x0 : (⟨S4096x1x28x28, .f32⟩ : BufTy).Contents (Elt Ideal)) (b : Fin 4096) (i j : Fin 9) :
    val_main_v3 (F := Ideal) x0 (ix4 b 0 i j) = img x0 b i j := by
  rw [val_main_v3_apply, val_main_v2_apply, val_main_cst_0_apply]
  show Ideal.div (val_main_v1 (F := Ideal) x0 (ix4 b 0 i j)) (Ideal.ofBits .f32 0x41100000#32) = _
  rw [nine_eq, Ideal.div_coe (by norm_num)]
  unfold img Cert.Spec.pool
  refine congrArg (· * _) ?_
  unfold val_main_v1
  show Host.reduceWindow (s := ⟨4, ![4096, 1, 28, 28]⟩) (t := ⟨4, ![4096, 1, 9, 9]⟩) (· + ·) ![1, 1, 3, 3] ![1, 1, 3, 3] ![0, 0, 0, 0] ![0, 0, 0, 0] x0
    (fun _ : (⟨0, ![]⟩ : Shape).Idx => val_main_v0 (F := Ideal) (Shape.Idx.first h_S_))
    reduceWindows_S4096x1x28x28_S4096x1x9x9_w1s1p0_0_w1s1p0_0_w3s3p0_0_w3s3p0_0 h_S_ (ix4 b 0 i j) = _
  rw [window_read _ 3 4096 1 28 28 9 9 9 (by decide) taps3 x0 _ _ _ b 0 i j (fun k => by omega) (fun k => by omega)]
  rw [fold_add (fun k : Fin 9 => x0 (ix4 b 0 ⟨3 * i.val + k.val / 3, by omega⟩ ⟨3 * j.val + k.val % 3, by omega⟩))]
  rw [show (val_main_v0 (F := Ideal) _ : EReal) = 0 from zero_eq, zero_add, Fin.sum_univ_def]

/-- The second stage pools the same image. -/
theorem v175_eq (x0 : (⟨S4096x1x28x28, .f32⟩ : BufTy).Contents (Elt Ideal)) : val_main_v175 (F := Ideal) x0 = val_main_v3 (F := Ideal) x0 := rfl

/-- One tap of the first convolution. -/
theorem tap3 (x0 : (⟨S4096x1x28x28, .f32⟩ : BufTy).Contents (Elt Ideal)) (x1 : (⟨S20x1x3x3, .f32⟩ : BufTy).Contents (Elt Ideal))
    (J : S4096x1x9x9.Idx) (K : S20x1x3x3.Idx) (b : Fin 4096) (c : Fin 20) (i j : Fin 9) (u v : Fin 3)
    (hJ : J = ix4 b 0 i j) (hK : K = ix4 c 0 u v) :
    val_main_v3 (F := Ideal) x0 J * x1 K = img x0 b i j * x1 (ix4 c 0 u v) := by
  rw [hJ, hK, v3_eq]

/-- The first convolution with its bias. -/
theorem v77_eq (x0 : (⟨S4096x1x28x28, .f32⟩ : BufTy).Contents (Elt Ideal)) (x1 : (⟨S20x1x3x3, .f32⟩ : BufTy).Contents (Elt Ideal))
    (x2 : (⟨S20, .f32⟩ : BufTy).Contents (Elt Ideal)) (b : Fin 4096) (c : Fin 20) (y z : Fin 7) :
    val_main_v77 (F := Ideal) x0 x1 x2 (ix4 b c y z) = conv3 (img x0 b) (fun u v => x1 (ix4 c 0 u v)) y z + x2 (ix1 c) := by
  simp only [val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_v77_apply, Ideal.addf_def, Ideal.mulf_def]
  unfold conv3
  rw [sum_nine]
  refine congrArg₂ (· + ·) ?_ (congrArg x2 (by idx_ext))
  refine congrArg₂ (· + ·) ?_ (tap3 x0 x1 _ _ b c _ _ _ _ (by idx_ext) (by idx_ext))
  refine congrArg₂ (· + ·) ?_ (tap3 x0 x1 _ _ b c _ _ _ _ (by idx_ext) (by idx_ext))
  refine congrArg₂ (· + ·) ?_ (tap3 x0 x1 _ _ b c _ _ _ _ (by idx_ext) (by idx_ext))
  refine congrArg₂ (· + ·) ?_ (tap3 x0 x1 _ _ b c _ _ _ _ (by idx_ext) (by idx_ext))
  refine congrArg₂ (· + ·) ?_ (tap3 x0 x1 _ _ b c _ _ _ _ (by idx_ext) (by idx_ext))
  refine congrArg₂ (· + ·) ?_ (tap3 x0 x1 _ _ b c _ _ _ _ (by idx_ext) (by idx_ext))
  refine congrArg₂ (· + ·) ?_ (tap3 x0 x1 _ _ b c _ _ _ _ (by idx_ext) (by idx_ext))
  refine congrArg₂ (· + ·) ?_ (tap3 x0 x1 _ _ b c _ _ _ _ (by idx_ext) (by idx_ext))
  exact tap3 x0 x1 _ _ b c _ _ _ _ (by idx_ext) (by idx_ext)

/-- The batch norm and the ReLU. -/
theorem v88_eq (x0 : (⟨S4096x1x28x28, .f32⟩ : BufTy).Contents (Elt Ideal)) (x1 : (⟨S20x1x3x3, .f32⟩ : BufTy).Contents (Elt Ideal))
    (x2 x3 x4 : (⟨S20, .f32⟩ : BufTy).Contents (Elt Ideal)) (b : Fin 4096) (c : Fin 20) (y z : Fin 7) :
    val_main_v88 (F := Ideal) x0 x1 x2 x3 x4 (ix4 b c y z)
      = max (bn (conv3 (img x0 b) (fun u v => x1 (ix4 c 0 u v)) y z + x2 (ix1 c)) (x3 (ix1 c)) (x4 (ix1 c))) 0 := by
  rw [val_main_v88_apply, val_main_v86_apply, val_main_v83_apply, val_main_v80_apply, val_main_v79_apply, val_main_v78_apply,
    val_main_v82_apply, val_main_v81_apply, val_main_v85_apply, val_main_v84_apply, val_main_v87_apply, v77_eq]
  show max (Ideal.div _ (Ideal.sqrt (Ideal.ofBits .f32 0x3F800054#32)) * _ + _) (Ideal.ofBits .f32 0x00000000#32) = _
  rw [root_lit, zero_eq]
  unfold bn
  refine congrArg₂ max (congrArg₂ (· + ·) (congrArg₂ (· * ·) rfl (congrArg x3 ?_)) (congrArg x4 ?_)) rfl <;> idx_ext

/-- The folded maximum of four. -/
theorem fold_four (g : Fin 4 → EReal) (z : EReal) :
    (List.finRange 4).foldl (fun r k => max r (g k)) z = max (max (max (max z (g 0)) (g 1)) (g 2)) (g 3) := rfl

/-- The features of stage 1. -/
theorem v91_eq (x0 : (⟨S4096x1x28x28, .f32⟩ : BufTy).Contents (Elt Ideal)) (x1 : (⟨S20x1x3x3, .f32⟩ : BufTy).Contents (Elt Ideal))
    (x2 x3 x4 : (⟨S20, .f32⟩ : BufTy).Contents (Elt Ideal)) (b : Fin 4096) (f : Fin 180) :
    val_main_v91 (F := Ideal) x0 x1 x2 x3 x4 (ix2 b f)
      = feats1 (img x0 b) (fun c u v => x1 (ix4 c 0 u v)) (fun c => x2 (ix1 c)) (fun c => x3 (ix1 c)) (fun c => x4 (ix1 c)) f := by
  rw [val_main_v91_apply, show idx_main_v91 (ix2 b f) = ix4 b ⟨f.val / 9, by omega⟩ ⟨f.val % 9 / 3, by omega⟩ ⟨f.val % 3, by omega⟩ from by idx_ext]
  unfold val_main_v90
  show Host.reduceWindow (s := ⟨4, ![4096, 20, 7, 7]⟩) (t := ⟨4, ![4096, 20, 3, 3]⟩) (fun r a : EReal => max r a) ![1, 1, 2, 2] ![1, 1, 2, 2] ![0, 0, 0, 0] ![0, 0, 0, 0]
    (val_main_v88 (F := Ideal) x0 x1 x2 x3 x4) _ _ _ (ix4 b _ _ _) = _
  rw [window_read _ 2 4096 20 7 7 3 3 4 (by decide) taps2 _ _ _ _ b _ _ _ (fun k => by simp only; omega) (fun k => by simp only; omega)]
  rw [fold_four (fun k : Fin 4 => val_main_v88 (F := Ideal) x0 x1 x2 x3 x4 (ix4 b ⟨f.val / 9, by omega⟩
    ⟨2 * (f.val % 9 / 3) + k.val / 2, by omega⟩ ⟨2 * (f.val % 3) + k.val % 2, by omega⟩))]
  rw [show (val_main_v89 (F := Ideal) _ : EReal) = ⊥ from ninf_eq]
  simp only [v88_eq]
  exact top4_pos fun t => bn (conv3 (img x0 b) (fun u v => x1 (ix4 ⟨f.val / 9, by omega⟩ 0 u v))
    ⟨2 * (f.val % 9 / 3) + t.val / 2, by omega⟩ ⟨2 * (f.val % 3) + t.val % 2, by omega⟩ + x2 (ix1 ⟨f.val / 9, by omega⟩))
    (x3 (ix1 ⟨f.val / 9, by omega⟩)) (x4 (ix1 ⟨f.val / 9, by omega⟩))

/-- The reference's stage-1 logits. -/
theorem v96_eq (x0 : (⟨S4096x1x28x28, .f32⟩ : BufTy).Contents (Elt Ideal)) (x1 : (⟨S20x1x3x3, .f32⟩ : BufTy).Contents (Elt Ideal))
    (x2 x3 x4 : (⟨S20, .f32⟩ : BufTy).Contents (Elt Ideal)) (x5 : (⟨S10x180, .f32⟩ : BufTy).Contents (Elt Ideal))
    (x6 : (⟨S10, .f32⟩ : BufTy).Contents (Elt Ideal)) (b : Fin 4096) (o : Fin 10) :
    val_main_v96 (F := Ideal) x0 x1 x2 x3 x4 x5 x6 (ix2 b o) = s1 x0 x1 x2 x3 x4 x5 x6 b o := by
  rw [val_main_v96_apply, val_main_v95_apply, val_main_v94_apply, val_main_v93_apply]
  unfold s1 logit1
  refine congrArg₂ (· + ·) (Finset.sum_congr rfl fun f _ => ?_) (congrArg x6 (by idx_ext))
  rw [show lidx_main_v93 (ix2 b o) f = ix2 b f from by idx_ext, v91_eq, val_main_v92_apply]
  exact congrArg₂ (· * ·) rfl (congrArg x5 (by idx_ext))

end Cert.RVal
-- ==== Proof.RefTop2.lean ====
/- The reference's routing: the two best classes of a row, and the expert of their pair. -/
module

public import proofs.«01_k».proof.Proof.RefStage1
public import Idealize.ShloMosaic.Lib.Routing.OpsPair
public import Idealize.ShloMosaic.Lib.Routing.OpsSet

@[expose] public section

set_option maxRecDepth 16384

noncomputable section

namespace Cert.RVal

open Cert.ReferenceIdeal Cert.ReferenceIdeal.Gen Cert.ReferenceIdeal.Read Idealize.ShloMosaic Idealize.ShloMosaic.TcCoe Cert.Spec

/-- The reference's logarithm of the softmax of every row. -/
def rowLsm (S : FVec Ideal S4096x10 .f32) : FVec Ideal S4096x10 .f32 :=
  subf (subf S (broadcastInDim S4096x10 ![0, 1] bcast_S4096x1_S4096x10_0_1 (broadcastInDim S4096x1 ![0] bcast_S4096_S4096x1_0
      (maximumf (broadcastInDim S4096 ![] bcast_S_S4096 (constant S_ .f32 0xFF800000#32))
        (Host.reduce FloatOps.maximumf S (constant S_ .f32 0xFF800000#32) reducesTo_S4096x10_S4096_d1 h_S_)))))
    (broadcastInDim S4096x10 ![0, 1] bcast_S4096x1_S4096x10_0_1 (Host.log (broadcastInDim S4096x1 ![0] bcast_S4096_S4096x1_0
      (Host.reduceAdd (Host.exp (subf S (broadcastInDim S4096x10 ![0, 1] bcast_S4096x1_S4096x10_0_1 (broadcastInDim S4096x1 ![0] bcast_S4096_S4096x1_0
      (maximumf (broadcastInDim S4096 ![] bcast_S_S4096 (constant S_ .f32 0xFF800000#32))
        (Host.reduce FloatOps.maximumf S (constant S_ .f32 0xFF800000#32) reducesTo_S4096x10_S4096_d1 h_S_))))))
        (constant S_ .f32 0x00000000#32) reducesTo_S4096x10_S4096_d1 h_S_))))

/-- At a row it is the logarithm of the softmax of that row. -/
theorem rowLsm_apply (S : FVec Ideal S4096x10 .f32) (b : Fin 4096) (k : Fin 10) :
    rowLsm S (ix2 b k) = lsm (fun k => S (ix2 b k)) k := by
  pointwise [rowLsm]
  unfold lsm
  rw [ninf_eq, max_bot_left]

/-- Moving along the second axis changes the second coordinate. -/
theorem along_two {B C : ℕ} (b : Fin B) (j k : Fin C) :
    ((ix2 b j : (⟨2, ![B, C]⟩ : Shape).Idx).along (1 : Fin 2) k : (⟨2, ![B, C]⟩ : Shape).Idx) = ix2 b k := by
  funext a
  unfold Shape.Idx.along
  match a with
  | ⟨0, _⟩ => rfl
  | ⟨1, _⟩ => rfl

/-- The comparator's key of a number is the number. -/
theorem key_eq (x n : EReal) : Scalar.select (Ideal.cmp .une x x) n (Scalar.select (Ideal.cmp .oeq x (Ideal.ofBits .f32 0x00000000#32)) (Ideal.ofBits .f32 0x00000000#32) x) = x := by
  rw [zero_eq]
  by_cases h : x = 0 <;> simp [Scalar.select, Ideal.cmp, h]

/-- The reference's comparator is the order of the first components. -/
theorem cmp_lt (l r : EReal × BitVec 32) :
    (comparator_f32_i32_d1 (F := Ideal) l r == 1#1) = decide (l.1 < r.1) := by
  show (Ideal.cmp .olt
    (Scalar.select (Ideal.cmp .une l.1 l.1) (Ideal.ofBits .f32 0x7FC00000#32) (Scalar.select (Ideal.cmp .oeq l.1 (Ideal.ofBits .f32 0x00000000#32)) (Ideal.ofBits .f32 0x00000000#32) l.1))
    (Scalar.select (Ideal.cmp .une r.1 r.1) (Ideal.ofBits .f32 0x7FC00000#32) (Scalar.select (Ideal.cmp .oeq r.1 (Ideal.ofBits .f32 0x00000000#32)) (Ideal.ofBits .f32 0x00000000#32) r.1)) == 1#1) = _
  rw [key_eq, key_eq]
  by_cases h : l.1 < r.1 <;> simp [Ideal.cmp, h]

/-- Two columns side by side. -/
theorem concat_two (x y : S4096x1.Idx → BitVec 32) (b : Fin 4096) :
    concatenate S4096x2 1 [⟨S4096x1, x⟩, ⟨S4096x1, y⟩] concatenates_S4096x1_S4096x1_S4096x2_d1 (ix2 b 0) = x (ix2 b 0)
      ∧ concatenate S4096x2 1 [⟨S4096x1, x⟩, ⟨S4096x1, y⟩] concatenates_S4096x1_S4096x1_S4096x2_d1 (ix2 b 1) = y (ix2 b 0) :=
  ⟨concatenate_pair_apply_left (t := S4096x2) (1 : Fin 2) x y concatenates_S4096x1_S4096x1_S4096x2_d1 (ix2 b 0) rfl (ix2 b 0)
      (fun a => match a with | ⟨0, _⟩ => rfl | ⟨1, _⟩ => rfl),
    concatenate_pair_apply_right (t := S4096x2) (1 : Fin 2) x y concatenates_S4096x1_S4096x1_S4096x2_d1 (ix2 b 1) rfl rfl (ix2 b 0)
      (fun a => match a with | ⟨0, _⟩ => fun _ => rfl | ⟨1, _⟩ => fun h => absurd rfl h) rfl⟩

/-- A class's word needs no wrapping. -/
theorem wrap_class (k : Fin 10) (a : BitVec 32) :
    Scalar.select (IntOp.cmpi .slt (BitVec.ofNat 32 k.val) 0#32) a (BitVec.ofNat 32 k.val) = BitVec.ofNat 32 k.val :=
  Routing.wrap_of_lt _ _ (by rw [BitVec.toNat_ofNat]; omega)

/-- Classes' words are compared as the classes. -/
theorem cmp_word : ∀ a b : Fin 10, (comparator_i32_d1 (BitVec.ofNat 32 a.val) (BitVec.ofNat 32 b.val) == 1#1) = decide (a < b) := by
  decide

variable (x0 : (⟨S4096x1x28x28, .f32⟩ : BufTy).Contents (Elt Ideal)) (x1 : (⟨S20x1x3x3, .f32⟩ : BufTy).Contents (Elt Ideal))
    (x2 x3 x4 : (⟨S20, .f32⟩ : BufTy).Contents (Elt Ideal)) (x5 : (⟨S10x180, .f32⟩ : BufTy).Contents (Elt Ideal))
    (x6 : (⟨S10, .f32⟩ : BufTy).Contents (Elt Ideal))

/-- The sorted classes. -/
theorem v98_eq (b : Fin 4096) (hs : ∀ k, ∃ r : ℝ, s1 x0 x1 x2 x3 x4 x5 x6 b k = r) (j : Fin 10) :
    val_main_v98 (F := Ideal) x0 x1 x2 x3 x4 x5 x6 (ix2 b j)
      = BitVec.ofNat 32 (sortedFrom (fun k k' : Fin 10 => decide (s1 x0 x1 x2 x3 x4 x5 x6 b k < s1 x0 x1 x2 x3 x4 x5 x6 b k')) j).val := by
  have e97 : val_main_v97 (F := Ideal) x0 x1 x2 x3 x4 x5 x6 = rowLsm (val_main_v96 (F := Ideal) x0 x1 x2 x3 x4 x5 x6) := rfl
  have row : (fun k => val_main_v96 (F := Ideal) x0 x1 x2 x3 x4 x5 x6 (ix2 b k)) = s1 x0 x1 x2 x3 x4 x5 x6 b :=
    funext fun k => v96_eq x0 x1 x2 x3 x4 x5 x6 b k
  have R : (fun k k' : Fin 10 => comparator_f32_i32_d1 (F := Ideal)
        (val_main_v97 (F := Ideal) x0 x1 x2 x3 x4 x5 x6 (ix2 b k), val_main_call1_v0 (F := Ideal) (ix2 b k))
        (val_main_v97 (F := Ideal) x0 x1 x2 x3 x4 x5 x6 (ix2 b k'), val_main_call1_v0 (F := Ideal) (ix2 b k')) == 1#1)
      = fun k k' => decide (s1 x0 x1 x2 x3 x4 x5 x6 b k < s1 x0 x1 x2 x3 x4 x5 x6 b k') := by
    funext k k'
    rw [cmp_lt]
    refine decide_eq_decide.2 ?_
    rw [e97, rowLsm_apply, rowLsm_apply, row]
    exact lsm_lt _ hs k k'
  rw [← R]
  unfold val_main_v98 Host.sort2
  rw [dif_pos (show 1 < 2 by decide)]
  show val_main_call1_v0 (F := Ideal) ((ix2 b j : S4096x10.Idx).along (1 : Fin 2) (sortedFrom (fun k k' : Fin 10 => comparator_f32_i32_d1 (F := Ideal)
        (val_main_v97 (F := Ideal) x0 x1 x2 x3 x4 x5 x6 ((ix2 b j : S4096x10.Idx).along (1 : Fin 2) k), val_main_call1_v0 (F := Ideal) ((ix2 b j : S4096x10.Idx).along (1 : Fin 2) k))
        (val_main_v97 (F := Ideal) x0 x1 x2 x3 x4 x5 x6 ((ix2 b j : S4096x10.Idx).along (1 : Fin 2) k'), val_main_call1_v0 (F := Ideal) ((ix2 b j : S4096x10.Idx).along (1 : Fin 2) k')) == 1#1) j)) = _
  have al : ∀ k : Fin 10, ((ix2 b j : S4096x10.Idx).along (1 : Fin 2) k : S4096x10.Idx) = ix2 b k := fun k => along_two b j k
  simp only [al]
  have iota : ∀ n : Fin 10, val_main_call1_v0 (F := Ideal) ((ix2 b j : S4096x10.Idx).along (1 : Fin 2) n) = BitVec.ofNat 32 n.val := fun n => by
    rw [al]
    rfl
  exact iota _

/-- The reference's pair of classes of a row. -/
theorem v100_eq (b : Fin 4096) (hs : ∀ k, ∃ r : ℝ, s1 x0 x1 x2 x3 x4 x5 x6 b k = r) (p q : Fin 10)
    (D : Dom (s1 x0 x1 x2 x3 x4 x5 x6 b) p q) :
    val_main_v100 (F := Ideal) x0 x1 x2 x3 x4 x5 x6 (ix2 b 0) = BitVec.ofNat 32 p.val
      ∧ val_main_v100 (F := Ideal) x0 x1 x2 x3 x4 x5 x6 (ix2 b 1) = BitVec.ofNat 32 q.val := by
  obtain ⟨v, hv⟩ : ∃ v : Fin 2 → Fin 10, v = fun i => sortedFrom (fun k k' : Fin 10 =>
    decide (s1 x0 x1 x2 x3 x4 x5 x6 b k < s1 x0 x1 x2 x3 x4 x5 x6 b k')) ⟨8 + i.val, by omega⟩ := ⟨_, rfl⟩
  have e99 : ∀ i : Fin 2, val_main_v99 (F := Ideal) x0 x1 x2 x3 x4 x5 x6 (ix2 b i) = BitVec.ofNat 32 (v i).val := fun i => by
    rw [val_main_v99_apply, show idx_main_v99 (ix2 b i) = ix2 b ⟨8 + i.val, by omega⟩ from by idx_ext, v98_eq x0 x1 x2 x3 x4 x5 x6 b hs, hv]
  have top : (v 0 = p ∧ v 1 = q) ∨ (v 0 = q ∧ v 1 = p) := by
    rw [hv]
    exact sort_top (s1 x0 x1 x2 x3 x4 x5 x6 b) p q D _ fun _ _ => rfl
  have R : (fun k k' : Fin 2 => comparator_i32_d1 (val_main_v99 (F := Ideal) x0 x1 x2 x3 x4 x5 x6 (ix2 b k))
      (val_main_v99 (F := Ideal) x0 x1 x2 x3 x4 x5 x6 (ix2 b k')) == 1#1) = fun k k' => decide (v k < v k') := by
    funext k k'
    rw [e99, e99]
    exact cmp_word _ _
  have e100 : ∀ j : Fin 2, val_main_v100 (F := Ideal) x0 x1 x2 x3 x4 x5 x6 (ix2 b j)
      = BitVec.ofNat 32 (v (sortedFrom (fun k k' => decide (v k < v k')) j)).val := fun j => by
    rw [← R, ← e99]
    unfold val_main_v100 Host.sort
    rw [dif_pos (show 1 < 2 by decide)]
    show val_main_v99 (F := Ideal) x0 x1 x2 x3 x4 x5 x6 ((ix2 b j : S4096x2.Idx).along (1 : Fin 2) (sortedFrom (fun k k' : Fin 2 => comparator_i32_d1
        (val_main_v99 (F := Ideal) x0 x1 x2 x3 x4 x5 x6 ((ix2 b j : S4096x2.Idx).along (1 : Fin 2) k))
        (val_main_v99 (F := Ideal) x0 x1 x2 x3 x4 x5 x6 ((ix2 b j : S4096x2.Idx).along (1 : Fin 2) k')) == 1#1) j)) = _
    have al : ∀ k : Fin 2, ((ix2 b j : S4096x2.Idx).along (1 : Fin 2) k : S4096x2.Idx) = ix2 b k := fun k => along_two b j k
    simp only [al]
    exact congrArg _ (al _)
  have P := sort_pair v p q D.1 top (fun k k' => decide (v k < v k')) fun _ _ => rfl
  exact ⟨(e100 0).trans (by rw [P.1]), (e100 1).trans (by rw [P.2])⟩

/-- The table of the pairs' numbers. -/
theorem v111_eq : ∀ p q : Fin 10, p < q → (val_main_v111 (F := Ideal) (ix2 p q) : BitVec 32) = BitVec.ofNat 32 (pairIdx p q) := by
  decide +kernel

/-- A small word read signed. -/
theorem toInt_small (n : ℕ) (h : n < 2 ^ 31) : (BitVec.ofNat 32 n).toInt = n := by
  rw [BitVec.toInt_eq_toNat_of_lt (by rw [BitVec.toNat_ofNat]; omega), BitVec.toNat_ofNat]
  omega

/-- The two words that choose the pair's number. -/
theorem v128_eq (b : Fin 4096) (p q : Fin 10) (h0 : val_main_v100 (F := Ideal) x0 x1 x2 x3 x4 x5 x6 (ix2 b 0) = BitVec.ofNat 32 p.val)
    (h1 : val_main_v100 (F := Ideal) x0 x1 x2 x3 x4 x5 x6 (ix2 b 1) = BitVec.ofNat 32 q.val) :
    val_main_v128 (F := Ideal) x0 x1 x2 x3 x4 x5 x6 (ix2 b 0) = BitVec.ofNat 32 p.val
      ∧ val_main_v128 (F := Ideal) x0 x1 x2 x3 x4 x5 x6 (ix2 b 1) = BitVec.ofNat 32 q.val := by
  have e0 : val_main_v126 (F := Ideal) x0 x1 x2 x3 x4 x5 x6 (ix2 b 0) = BitVec.ofNat 32 p.val := by
    rw [val_main_v126_apply, val_main_v120_apply, val_main_v117_apply, val_main_v113_apply, val_main_v112_apply,
      show idx_main_v112 (idx_main_v113 (idx_main_v126 (ix2 b 0))) = ix2 b 0 from by idx_ext, h0]
    exact wrap_class _ _
  have e1 : val_main_v127 (F := Ideal) x0 x1 x2 x3 x4 x5 x6 (ix2 b 0) = BitVec.ofNat 32 q.val := by
    rw [val_main_v127_apply, val_main_v125_apply, val_main_v122_apply, val_main_v115_apply, val_main_v114_apply,
      show idx_main_v114 (idx_main_v115 (idx_main_v127 (ix2 b 0))) = ix2 b 1 from by idx_ext, h1]
    exact wrap_class _ _
  have C := concat_two (val_main_v126 (F := Ideal) x0 x1 x2 x3 x4 x5 x6) (val_main_v127 (F := Ideal) x0 x1 x2 x3 x4 x5 x6) b
  exact ⟨C.1.trans e0, C.2.trans e1⟩

/-- Reading a table at a pair of words. -/
theorem gather_pair (x : S10x10.Idx → BitVec 32) (idx : IVec S4096x2 32) (b : Fin 4096) (p q : Fin 10)
    (h0 : idx (ix2 b 0) = BitVec.ofNat 32 p.val) (h1 : idx (ix2 b 1) = BitVec.ofNat 32 q.val) :
    Host.gather gather_S10x10_S4096x2_S4096_n_01_n_n_01_1_11 x idx (ix1 b) = x (ix2 p q) := by
  unfold Host.gather
  refine congrArg x ?_
  have s0 : gather_S10x10_S4096x2_S4096_n_01_n_n_01_1_11.siIdx (ix1 b) ⟨0, by decide⟩ = ix2 b 0 :=
    funext fun a => Fin.ext (match a with | ⟨0, _⟩ => rfl | ⟨1, _⟩ => rfl)
  have s1 : gather_S10x10_S4096x2_S4096_n_01_n_n_01_1_11.siIdx (ix1 b) ⟨1, by decide⟩ = ix2 b 1 :=
    funext fun a => Fin.ext (match a with | ⟨0, _⟩ => rfl | ⟨1, _⟩ => rfl)
  funext a
  apply Fin.ext
  match a with
  | ⟨0, _⟩ =>
    show min (idx (gather_S10x10_S4096x2_S4096_n_01_n_n_01_1_11.siIdx (ix1 b) ⟨0, by decide⟩)).toInt.toNat 9 + 0 + 0 = p.val
    rw [s0, h0, toInt_small _ (by omega)]
    omega
  | ⟨1, _⟩ =>
    show min (idx (gather_S10x10_S4096x2_S4096_n_01_n_n_01_1_11.siIdx (ix1 b) ⟨1, by decide⟩)).toInt.toNat 9 + 0 + 0 = q.val
    rw [s1, h1, toInt_small _ (by omega)]
    omega

/-- The expert's word of a row. -/
theorem v135_eq (b : Fin 4096) (hs : ∀ k, ∃ r : ℝ, s1 x0 x1 x2 x3 x4 x5 x6 b k = r) (p q : Fin 10)
    (D : Dom (s1 x0 x1 x2 x3 x4 x5 x6 b) p q) :
    val_main_v135 (F := Ideal) x0 x1 x2 x3 x4 x5 x6 (ix2 b 0) = BitVec.ofNat 32 (pairIdx p q) := by
  obtain ⟨h0, h1⟩ := v100_eq x0 x1 x2 x3 x4 x5 x6 b hs p q D
  obtain ⟨k0, k1⟩ := v128_eq x0 x1 x2 x3 x4 x5 x6 b p q h0 h1
  have e : val_main_v129 (F := Ideal) x0 x1 x2 x3 x4 x5 x6 (ix1 b) = BitVec.ofNat 32 (pairIdx p q) :=
    (gather_pair _ _ b p q k0 k1).trans (v111_eq p q D.1)
  have lt := pairIdx_lt p q D.1
  rw [val_main_v135_apply, show idx_main_v135 (ix2 b 0) = ix1 b from by idx_ext, val_main_v134_apply, val_main_v131_apply]
  show Scalar.select (IntOp.cmpi .slt _ 0#32) _ _ = _
  rw [Routing.wrap_of_lt _ _ (by rw [e, BitVec.toNat_ofNat]; omega), e]

end Cert.RVal
-- ==== Proof.RefStage2.lean ====
/- The reference's second stage: the expert's two logits, put at the row's two classes. -/
module

public import proofs.«01_k».proof.Proof.RefTop2

@[expose] public section

set_option maxRecDepth 16384

noncomputable section

namespace Cert.RVal

open Cert.ReferenceIdeal Cert.ReferenceIdeal.Gen Cert.ReferenceIdeal.Read Idealize.ShloMosaic Idealize.ShloMosaic.TcCoe Cert.Spec

/-- The experts' filters read at a word. -/
theorem gather_filter (x : S45x15x1x5x5.Idx → EReal) (idx : IVec S4096x1 32) (b : Fin 4096) (e : Fin 45) (h : idx (ix2 b 0) = BitVec.ofNat 32 e.val)
    (c : Fin 15) (z : Fin 1) (u v : Fin 5) :
    Host.gather gather_S45x15x1x5x5_S4096x1_S4096x15x1x5x5_1234_0_n_n_0_1_115155 x idx (ix5 b c z u v) = x (ix5 e c z u v) := by
  unfold Host.gather
  refine congrArg x ?_
  have s0 : gather_S45x15x1x5x5_S4096x1_S4096x15x1x5x5_1234_0_n_n_0_1_115155.siIdx (ix5 b c z u v) ⟨0, by decide⟩ = ix2 b 0 :=
    funext fun a => Fin.ext (match a with | ⟨0, _⟩ => rfl | ⟨1, _⟩ => rfl)
  funext a
  apply Fin.ext
  match a with
  | ⟨0, _⟩ =>
    show min (idx (gather_S45x15x1x5x5_S4096x1_S4096x15x1x5x5_1234_0_n_n_0_1_115155.siIdx (ix5 b c z u v) ⟨0, by decide⟩)).toInt.toNat 44 + 0 + 0 = e.val
    rw [s0, h, toInt_small _ (by omega)]
    omega
  | ⟨1, _⟩ => exact Nat.zero_add _
  | ⟨2, _⟩ => exact Nat.zero_add _
  | ⟨3, _⟩ => exact Nat.zero_add _
  | ⟨4, _⟩ => exact Nat.zero_add _

/-- The experts' channel vectors read at a word. -/
theorem gather_channel (x : S45x15.Idx → EReal) (idx : IVec S4096x1 32) (b : Fin 4096) (e : Fin 45) (h : idx (ix2 b 0) = BitVec.ofNat 32 e.val) (c : Fin 15) :
    Host.gather gather_S45x15_S4096x1_S4096x15_1_0_n_n_0_1_115 x idx (ix2 b c) = x (ix2 e c) := by
  unfold Host.gather
  refine congrArg x ?_
  have s0 : gather_S45x15_S4096x1_S4096x15_1_0_n_n_0_1_115.siIdx (ix2 b c) ⟨0, by decide⟩ = ix2 b 0 :=
    funext fun a => Fin.ext (match a with | ⟨0, _⟩ => rfl | ⟨1, _⟩ => rfl)
  funext a
  apply Fin.ext
  match a with
  | ⟨0, _⟩ =>
    show min (idx (gather_S45x15_S4096x1_S4096x15_1_0_n_n_0_1_115.siIdx (ix2 b c) ⟨0, by decide⟩)).toInt.toNat 44 + 0 + 0 = e.val
    rw [s0, h, toInt_small _ (by omega)]
    omega
  | ⟨1, _⟩ => exact Nat.zero_add _

/-- The experts' weights read at a word. -/
theorem gather_weight (x : S45x2x60.Idx → EReal) (idx : IVec S4096x1 32) (b : Fin 4096) (e : Fin 45) (h : idx (ix2 b 0) = BitVec.ofNat 32 e.val)
    (d : Fin 2) (f : Fin 60) :
    Host.gather gather_S45x2x60_S4096x1_S4096x2x60_12_0_n_n_0_1_1260 x idx (ix3 b d f) = x (ix3 e d f) := by
  unfold Host.gather
  refine congrArg x ?_
  have s0 : gather_S45x2x60_S4096x1_S4096x2x60_12_0_n_n_0_1_1260.siIdx (ix3 b d f) ⟨0, by decide⟩ = ix2 b 0 :=
    funext fun a => Fin.ext (match a with | ⟨0, _⟩ => rfl | ⟨1, _⟩ => rfl)
  funext a
  apply Fin.ext
  match a with
  | ⟨0, _⟩ =>
    show min (idx (gather_S45x2x60_S4096x1_S4096x2x60_12_0_n_n_0_1_1260.siIdx (ix3 b d f) ⟨0, by decide⟩)).toInt.toNat 44 + 0 + 0 = e.val
    rw [s0, h, toInt_small _ (by omega)]
    omega
  | ⟨1, _⟩ => exact Nat.zero_add _
  | ⟨2, _⟩ => exact Nat.zero_add _

/-- The experts' biases read at a word. -/
theorem gather_bias (x : S45x2.Idx → EReal) (idx : IVec S4096x1 32) (b : Fin 4096) (e : Fin 45) (h : idx (ix2 b 0) = BitVec.ofNat 32 e.val) (d : Fin 2) :
    Host.gather gather_S45x2_S4096x1_S4096x2_1_0_n_n_0_1_12 x idx (ix2 b d) = x (ix2 e d) := by
  unfold Host.gather
  refine congrArg x ?_
  have s0 : gather_S45x2_S4096x1_S4096x2_1_0_n_n_0_1_12.siIdx (ix2 b d) ⟨0, by decide⟩ = ix2 b 0 :=
    funext fun a => Fin.ext (match a with | ⟨0, _⟩ => rfl | ⟨1, _⟩ => rfl)
  funext a
  apply Fin.ext
  match a with
  | ⟨0, _⟩ =>
    show min (idx (gather_S45x2_S4096x1_S4096x2_1_0_n_n_0_1_12.siIdx (ix2 b d) ⟨0, by decide⟩)).toInt.toNat 44 + 0 + 0 = e.val
    rw [s0, h, toInt_small _ (by omega)]
    omega
  | ⟨1, _⟩ => exact Nat.zero_add _

/-- Writing one entry per row: row `b` gets its update at the class of its word and keeps the rest. -/
theorem set_row (x0 : S4096x10.Idx → EReal) (idx : IVec S4096x2 32) (upd : S4096.Idx → EReal) (b : Fin 4096) (p k : Fin 10)
    (hrow : ∀ b' : Fin 4096, idx (ix2 b' 0) = BitVec.ofNat 32 b'.val) (hp : idx (ix2 b 1) = BitVec.ofNat 32 p.val) :
    Host.scatter scatter_S4096x10_S4096x2_S4096_n_01_01_1 (fun _ b => b) x0 idx upd (ix2 b k) = if k = p then upd (ix1 b) else x0 (ix2 b k) := by
  have land : ∀ b' : Fin 4096, scatter_S4096x10_S4096x2_S4096_n_01_01_1.resultIdx? (ix1 b') idx = some (ix2 b k)
      ↔ (b'.val : Int) = b.val ∧ (idx (ix2 b' 1)).toInt = k.val := fun b' => by
    have i0 : scatter_S4096x10_S4096x2_S4096_n_01_01_1.siIdx (ix1 b') ⟨0, by decide⟩ = ix2 b' 0 :=
      funext fun a => Fin.ext (match a with | ⟨0, _⟩ => rfl | ⟨1, _⟩ => rfl)
    have i1 : scatter_S4096x10_S4096x2_S4096_n_01_01_1.siIdx (ix1 b') ⟨1, by decide⟩ = ix2 b' 1 :=
      funext fun a => Fin.ext (match a with | ⟨0, _⟩ => rfl | ⟨1, _⟩ => rfl)
    refine (Routing.resultIdx?_ix2 scatter_S4096x10_S4096x2_S4096_n_01_01_1 (ix1 b') idx b k).trans ?_
    show (idx (scatter_S4096x10_S4096x2_S4096_n_01_01_1.siIdx (ix1 b') ⟨0, by decide⟩)).toInt + ((0 : ℕ) : Int) = _
      ∧ (idx (scatter_S4096x10_S4096x2_S4096_n_01_01_1.siIdx (ix1 b') ⟨1, by decide⟩)).toInt + ((0 : ℕ) : Int) = _ ↔ _
    rw [i0, i1, hrow, toInt_small _ (by omega), Nat.cast_zero, add_zero, add_zero]
  have one : ∀ j : S4096.Idx, ∃ b' : Fin 4096, j = ix1 b' := fun j => ⟨j 0, funext fun a => match a with | ⟨0, _⟩ => rfl⟩
  by_cases hk : k = p
  · rw [if_pos hk]
    refine Routing.scatter_set_hit _ x0 idx upd _ _ (fun j hj => ?_) (ix1 b) ((land b).2 ⟨rfl, ?_⟩)
    · obtain ⟨b', rfl⟩ := one j
      rw [show b' = b from Fin.ext (by have := ((land b').1 hj).1; omega)]
    · rw [hp, toInt_small _ (by omega), hk]
  · rw [if_neg hk]
    refine Routing.scatter_set_miss _ x0 idx upd _ fun j hj => ?_
    obtain ⟨b', rfl⟩ := one j
    obtain ⟨h1, h2⟩ := (land b').1 hj
    rw [show b' = b from Fin.ext (by omega), hp, toInt_small _ (by omega)] at h2
    exact hk (Fin.ext (by omega))

variable (x0 : (⟨S4096x1x28x28, .f32⟩ : BufTy).Contents (Elt Ideal)) (x1 : (⟨S20x1x3x3, .f32⟩ : BufTy).Contents (Elt Ideal))
    (x2 x3 x4 : (⟨S20, .f32⟩ : BufTy).Contents (Elt Ideal)) (x5 : (⟨S10x180, .f32⟩ : BufTy).Contents (Elt Ideal))
    (x6 : (⟨S10, .f32⟩ : BufTy).Contents (Elt Ideal)) (x7 : (⟨S45x15x1x5x5, .f32⟩ : BufTy).Contents (Elt Ideal))
    (x8 x9 x10 : (⟨S45x15, .f32⟩ : BufTy).Contents (Elt Ideal)) (x11 : (⟨S45x2x60, .f32⟩ : BufTy).Contents (Elt Ideal))
    (x12 : (⟨S45x2, .f32⟩ : BufTy).Contents (Elt Ideal)) (b : Fin 4096) (e : Fin 45)
    (hE : val_main_v135 (F := Ideal) x0 x1 x2 x3 x4 x5 x6 (ix2 b 0) = BitVec.ofNat 32 e.val)

include hE

/-- One tap of the expert's convolution. -/
theorem tap5 (J : S4096x1x9x9.Idx) (K : S4096x15x1x5x5.Idx) (c : Fin 15) (i j : Fin 9) (u v : Fin 5)
    (hJ : J = ix4 b 0 i j) (hK : K = ix5 b c 0 u v) :
    val_main_v175 (F := Ideal) x0 J * val_main_v136 (F := Ideal) x0 x1 x2 x3 x4 x5 x6 x7 K = img x0 b i j * x7 (ix5 e c 0 u v) := by
  rw [hJ, hK, v175_eq, v3_eq]
  exact congrArg₂ (· * ·) rfl (gather_filter x7 _ b e hE c 0 u v)

omit hE in
/-- A sum of twenty-five, term by term. -/
theorem sum_twentyfive (g : Fin 25 → EReal) : ∑ k, g k = g 0 + g 1 + g 2 + g 3 + g 4 + g 5 + g 6 + g 7 + g 8 + g 9 + g 10 + g 11 + g 12
    + g 13 + g 14 + g 15 + g 16 + g 17 + g 18 + g 19 + g 20 + g 21 + g 22 + g 23 + g 24 := by
  simp only [Fin.sum_univ_castSucc, Finset.univ_eq_empty, Finset.sum_empty, zero_add]
  rfl

/-- The expert's convolution with its bias. -/
theorem v377_eq (c : Fin 15) (y z : Fin 5) :
    val_main_v377 (F := Ideal) x0 x1 x2 x3 x4 x5 x6 x7 x8 (ix4 b c y z)
      = conv5 (img x0 b) (fun u v => x7 (ix5 e c 0 u v)) y z + x8 (ix2 e c) := by
  simp only [val_main_v176_apply, val_main_v177_apply, val_main_v178_apply, val_main_v179_apply, val_main_v180_apply, val_main_v181_apply, val_main_v182_apply, val_main_v183_apply, val_main_v184_apply, val_main_v185_apply, val_main_v186_apply, val_main_v187_apply, val_main_v188_apply, val_main_v189_apply, val_main_v190_apply, val_main_v191_apply, val_main_v192_apply, val_main_v193_apply, val_main_v194_apply, val_main_v195_apply, val_main_v196_apply, val_main_v197_apply, val_main_v198_apply, val_main_v199_apply, val_main_v200_apply, val_main_v201_apply, val_main_v202_apply, val_main_v203_apply, val_main_v204_apply, val_main_v205_apply, val_main_v206_apply, val_main_v207_apply, val_main_v208_apply, val_main_v209_apply, val_main_v210_apply, val_main_v211_apply, val_main_v212_apply, val_main_v213_apply, val_main_v214_apply, val_main_v215_apply, val_main_v216_apply, val_main_v217_apply, val_main_v218_apply, val_main_v219_apply, val_main_v220_apply, val_main_v221_apply, val_main_v222_apply, val_main_v223_apply, val_main_v224_apply, val_main_v225_apply, val_main_v226_apply, val_main_v227_apply, val_main_v228_apply, val_main_v229_apply, val_main_v230_apply, val_main_v231_apply, val_main_v232_apply, val_main_v233_apply, val_main_v234_apply, val_main_v235_apply, val_main_v236_apply, val_main_v237_apply, val_main_v238_apply, val_main_v239_apply, val_main_v240_apply, val_main_v241_apply, val_main_v242_apply, val_main_v243_apply, val_main_v244_apply, val_main_v245_apply, val_main_v246_apply, val_main_v247_apply, val_main_v248_apply, val_main_v249_apply, val_main_v250_apply, val_main_v251_apply, val_main_v252_apply, val_main_v253_apply, val_main_v254_apply, val_main_v255_apply, val_main_v256_apply, val_main_v257_apply, val_main_v258_apply, val_main_v259_apply, val_main_v260_apply, val_main_v261_apply, val_main_v262_apply, val_main_v263_apply, val_main_v264_apply, val_main_v265_apply, val_main_v266_apply, val_main_v267_apply, val_main_v268_apply, val_main_v269_apply, val_main_v270_apply, val_main_v271_apply, val_main_v272_apply, val_main_v273_apply, val_main_v274_apply, val_main_v275_apply, val_main_v276_apply, val_main_v277_apply, val_main_v278_apply, val_main_v279_apply, val_main_v280_apply, val_main_v281_apply, val_main_v282_apply, val_main_v283_apply, val_main_v284_apply, val_main_v285_apply, val_main_v286_apply, val_main_v287_apply, val_main_v288_apply, val_main_v289_apply, val_main_v290_apply, val_main_v291_apply, val_main_v292_apply, val_main_v293_apply, val_main_v294_apply, val_main_v295_apply, val_main_v296_apply, val_main_v297_apply, val_main_v298_apply, val_main_v299_apply, val_main_v300_apply, val_main_v301_apply, val_main_v302_apply, val_main_v303_apply, val_main_v304_apply, val_main_v305_apply, val_main_v306_apply, val_main_v307_apply, val_main_v308_apply, val_main_v309_apply, val_main_v310_apply, val_main_v311_apply, val_main_v312_apply, val_main_v313_apply, val_main_v314_apply, val_main_v315_apply, val_main_v316_apply, val_main_v317_apply, val_main_v318_apply, val_main_v319_apply, val_main_v320_apply, val_main_v321_apply, val_main_v322_apply, val_main_v323_apply, val_main_v324_apply, val_main_v325_apply, val_main_v326_apply, val_main_v327_apply, val_main_v328_apply, val_main_v329_apply, val_main_v330_apply, val_main_v331_apply, val_main_v332_apply, val_main_v333_apply, val_main_v334_apply, val_main_v335_apply, val_main_v336_apply, val_main_v337_apply, val_main_v338_apply, val_main_v339_apply, val_main_v340_apply, val_main_v341_apply, val_main_v342_apply, val_main_v343_apply, val_main_v344_apply, val_main_v345_apply, val_main_v346_apply, val_main_v347_apply, val_main_v348_apply, val_main_v349_apply, val_main_v350_apply, val_main_v351_apply, val_main_v352_apply, val_main_v353_apply, val_main_v354_apply, val_main_v355_apply, val_main_v356_apply, val_main_v357_apply, val_main_v358_apply, val_main_v359_apply, val_main_v360_apply, val_main_v361_apply, val_main_v362_apply, val_main_v363_apply, val_main_v364_apply, val_main_v365_apply, val_main_v366_apply, val_main_v367_apply, val_main_v368_apply, val_main_v369_apply, val_main_v370_apply, val_main_v371_apply, val_main_v372_apply, val_main_v373_apply, val_main_v374_apply, val_main_v375_apply, val_main_v376_apply, val_main_v377_apply, Ideal.addf_def, Ideal.mulf_def]
  unfold conv5
  rw [sum_twentyfive]
  refine congrArg₂ (· + ·) ?_ ?_
  · iterate 24 refine congrArg₂ (· + ·) ?_ (tap5 x0 x1 x2 x3 x4 x5 x6 x7 b e hE _ _ c _ _ _ _ (by idx_ext) (by idx_ext))
    exact tap5 x0 x1 x2 x3 x4 x5 x6 x7 b e hE _ _ c _ _ _ _ (by idx_ext) (by idx_ext)
  · refine Eq.trans (congrArg _ ?_) (gather_channel x8 _ b e hE c)
    idx_ext

/-- The batch norm and the ReLU. -/
theorem v388_eq (c : Fin 15) (y z : Fin 5) :
    val_main_v388 (F := Ideal) x0 x1 x2 x3 x4 x5 x6 x7 x8 x9 x10 (ix4 b c y z)
      = max (bn (conv5 (img x0 b) (fun u v => x7 (ix5 e c 0 u v)) y z + x8 (ix2 e c)) (x9 (ix2 e c)) (x10 (ix2 e c))) 0 := by
  rw [val_main_v388_apply, val_main_v386_apply, val_main_v383_apply, val_main_v380_apply, val_main_v379_apply, val_main_v378_apply,
    val_main_v382_apply, val_main_v381_apply, val_main_v385_apply, val_main_v384_apply, val_main_v387_apply,
    v377_eq x0 x1 x2 x3 x4 x5 x6 x7 x8 b e hE]
  show max (Ideal.div _ (Ideal.sqrt (Ideal.ofBits .f32 0x3F800054#32)) * _ + _) (Ideal.ofBits .f32 0x00000000#32) = _
  rw [root_lit, zero_eq]
  unfold bn
  refine congrArg₂ max (congrArg₂ (· + ·) (congrArg₂ (· * ·) rfl ?_) ?_) rfl
  · refine Eq.trans (congrArg _ ?_) (gather_channel x9 _ b e hE c)
    idx_ext
  · refine Eq.trans (congrArg _ ?_) (gather_channel x10 _ b e hE c)
    idx_ext

/-- The features of stage 2. -/
theorem v391_eq (f : Fin 60) :
    val_main_v391 (F := Ideal) x0 x1 x2 x3 x4 x5 x6 x7 x8 x9 x10 (ix2 b f)
      = feats2 (img x0 b) (fun c u v => x7 (ix5 e c 0 u v)) (fun c => x8 (ix2 e c)) (fun c => x9 (ix2 e c)) (fun c => x10 (ix2 e c)) f := by
  rw [val_main_v391_apply, show idx_main_v391 (ix2 b f) = ix4 b ⟨f.val / 4, by omega⟩ ⟨f.val % 4 / 2, by omega⟩ ⟨f.val % 2, by omega⟩ from by idx_ext]
  unfold val_main_v390
  show Host.reduceWindow (s := ⟨4, ![4096, 15, 5, 5]⟩) (t := ⟨4, ![4096, 15, 2, 2]⟩) (fun r a : EReal => max r a) ![1, 1, 2, 2] ![1, 1, 2, 2] ![0, 0, 0, 0] ![0, 0, 0, 0]
    (val_main_v388 (F := Ideal) x0 x1 x2 x3 x4 x5 x6 x7 x8 x9 x10) _ _ _ (ix4 b _ _ _) = _
  rw [window_read _ 2 4096 15 5 5 2 2 4 (by decide) taps2 _ _ _ _ b _ _ _ (fun k => by simp only; omega) (fun k => by simp only; omega)]
  rw [fold_four (fun k : Fin 4 => val_main_v388 (F := Ideal) x0 x1 x2 x3 x4 x5 x6 x7 x8 x9 x10 (ix4 b ⟨f.val / 4, by omega⟩
    ⟨2 * (f.val % 4 / 2) + k.val / 2, by omega⟩ ⟨2 * (f.val % 2) + k.val % 2, by omega⟩))]
  rw [show (val_main_v389 (F := Ideal) _ : EReal) = ⊥ from ninf_eq]
  simp only [v388_eq x0 x1 x2 x3 x4 x5 x6 x7 x8 x9 x10 b e hE]
  exact top4_pos fun t => bn (conv5 (img x0 b) (fun u v => x7 (ix5 e ⟨f.val / 4, by omega⟩ 0 u v))
    ⟨2 * (f.val % 4 / 2) + t.val / 2, by omega⟩ ⟨2 * (f.val % 2) + t.val % 2, by omega⟩ + x8 (ix2 e ⟨f.val / 4, by omega⟩))
    (x9 (ix2 e ⟨f.val / 4, by omega⟩)) (x10 (ix2 e ⟨f.val / 4, by omega⟩))

/-- The reference's two logits of stage 2. -/
theorem v393_eq (d : Fin 2) :
    val_main_v393 (F := Ideal) x0 x1 x2 x3 x4 x5 x6 x7 x8 x9 x10 x11 x12 (ix2 b d) = s2 x0 x7 x8 x9 x10 x11 x12 b e d := by
  rw [val_main_v393_apply, val_main_v392_apply]
  unfold s2 logit2
  refine congrArg₂ (· + ·) (Finset.sum_congr rfl fun f _ => ?_) (gather_bias x12 _ b e hE d)
  rw [show lidx_main_v392 (ix2 b d) f = ix2 b f from by idx_ext, v391_eq x0 x1 x2 x3 x4 x5 x6 x7 x8 x9 x10 b e hE,
    show ridx_main_v392 (ix2 b d) f = ix3 b d f from by idx_ext]
  exact congrArg₂ (· * ·) rfl (gather_weight x11 _ b e hE d f)

omit hE

/-- The rows' words. -/
theorem row_word (b' : Fin 4096) :
    val_main_v410 (F := Ideal) (ix2 b' 0) = BitVec.ofNat 32 b'.val ∧ val_main_v428 (F := Ideal) (ix2 b' 0) = BitVec.ofNat 32 b'.val := by
  have w : ∀ a : BitVec 32, Scalar.select (IntOp.cmpi .slt (BitVec.ofNat 32 b'.val) 0#32) a (BitVec.ofNat 32 b'.val) = BitVec.ofNat 32 b'.val :=
    fun a => Routing.wrap_of_lt _ _ (by rw [BitVec.toNat_ofNat]; omega)
  constructor
  · rw [val_main_v410_apply, val_main_v404_apply, val_main_v401_apply]
    exact w _
  · rw [val_main_v428_apply, val_main_v422_apply, val_main_v419_apply]
    exact w _

/-- The reference's second result. -/
theorem v432_eq (hs : ∀ k, ∃ r : ℝ, s1 x0 x1 x2 x3 x4 x5 x6 b k = r) (p q : Fin 10) (D : Dom (s1 x0 x1 x2 x3 x4 x5 x6 b) p q) (k : Fin 10) :
    val_main_v432 (F := Ideal) x0 x1 x2 x3 x4 x5 x6 x7 x8 x9 x10 x11 x12 (ix2 b k)
      = lsm (placed p q (s2 x0 x7 x8 x9 x10 x11 x12 b ⟨pairIdx p q, pairIdx_lt p q D.1⟩ 0)
          (s2 x0 x7 x8 x9 x10 x11 x12 b ⟨pairIdx p q, pairIdx_lt p q D.1⟩ 1)) k := by
  obtain ⟨h0, h1⟩ := v100_eq x0 x1 x2 x3 x4 x5 x6 b hs p q D
  have hE := v135_eq x0 x1 x2 x3 x4 x5 x6 b hs p q D
  have L := v393_eq x0 x1 x2 x3 x4 x5 x6 x7 x8 x9 x10 x11 x12 b ⟨pairIdx p q, pairIdx_lt p q D.1⟩ hE
  have e0 : val_main_v411 (F := Ideal) x0 x1 x2 x3 x4 x5 x6 (ix2 b 0) = BitVec.ofNat 32 p.val := by
    rw [val_main_v411_apply, val_main_v409_apply, val_main_v406_apply, val_main_v397_apply, val_main_v396_apply,
      show idx_main_v396 (idx_main_v397 (idx_main_v411 (ix2 b 0))) = ix2 b 0 from by idx_ext, h0]
    exact wrap_class _ _
  have e1 : val_main_v429 (F := Ideal) x0 x1 x2 x3 x4 x5 x6 (ix2 b 0) = BitVec.ofNat 32 q.val := by
    rw [val_main_v429_apply, val_main_v427_apply, val_main_v424_apply, val_main_v415_apply, val_main_v414_apply,
      show idx_main_v414 (idx_main_v415 (idx_main_v429 (ix2 b 0))) = ix2 b 1 from by idx_ext, h1]
    exact wrap_class _ _
  have u0 : val_main_v399 (F := Ideal) x0 x1 x2 x3 x4 x5 x6 x7 x8 x9 x10 x11 x12 (ix1 b) = s2 x0 x7 x8 x9 x10 x11 x12 b ⟨pairIdx p q, pairIdx_lt p q D.1⟩ 0 := by
    rw [val_main_v399_apply, val_main_v398_apply, show idx_main_v398 (idx_main_v399 (ix1 b)) = ix2 b 0 from by idx_ext, L]
  have u1 : val_main_v417 (F := Ideal) x0 x1 x2 x3 x4 x5 x6 x7 x8 x9 x10 x11 x12 (ix1 b) = s2 x0 x7 x8 x9 x10 x11 x12 b ⟨pairIdx p q, pairIdx_lt p q D.1⟩ 1 := by
    rw [val_main_v417_apply, val_main_v416_apply, show idx_main_v416 (idx_main_v417 (ix1 b)) = ix2 b 1 from by idx_ext, L]
  have e431 : ∀ k, val_main_v431 (F := Ideal) x0 x1 x2 x3 x4 x5 x6 x7 x8 x9 x10 x11 x12 (ix2 b k)
      = placed p q (s2 x0 x7 x8 x9 x10 x11 x12 b ⟨pairIdx p q, pairIdx_lt p q D.1⟩ 0)
          (s2 x0 x7 x8 x9 x10 x11 x12 b ⟨pairIdx p q, pairIdx_lt p q D.1⟩ 1) k := fun k => by
    unfold val_main_v431 val_main_v430
    rw [set_row _ _ _ b q k (fun b' => (concat_two _ _ b').1.trans (row_word b').2) ((concat_two _ _ b).2.trans e1), u1]
    unfold val_main_v413 val_main_v412
    rw [set_row _ _ _ b p k (fun b' => (concat_two _ _ b').1.trans (row_word b').1) ((concat_two _ _ b).2.trans e0), u0, val_main_v394_apply]
    unfold placed
    by_cases hq : k = q
    · rw [if_pos hq, if_neg (fun hp => absurd (hp.symm.trans hq) (ne_of_lt D.1)), if_pos hq]
    · rw [if_neg hq]
      by_cases hp : k = p
      · rw [if_pos hp, if_pos hp]
      · rw [if_neg hp, if_neg hp, if_neg hq]
        rfl
  have e432 : val_main_v432 (F := Ideal) x0 x1 x2 x3 x4 x5 x6 x7 x8 x9 x10 x11 x12
      = rowLsm (val_main_v431 (F := Ideal) x0 x1 x2 x3 x4 x5 x6 x7 x8 x9 x10 x11 x12) := rfl
  rw [e432, rowLsm_apply, funext e431]

end Cert.RVal
-- ==== Proof.Pre.lean ====
/- What the precondition says: the input, the stage-2 weights and scales and the stage-1 logits are real,
   and in every row two classes' stage-1 logits are above the others'. -/
module

public import proofs.«01_k».proof.Proof.RefStage1
public import proofs.«01_k».proof.Proof.Gen.Pre_finite_top_two
public import Idealize.ShloMosaic.Lib.ReduceAll

@[expose] public section

set_option maxRecDepth 16384

noncomputable section

namespace Cert.PreVal

open Cert.Pre_finite_top_two Cert.Pre_finite_top_two.Facts Idealize.ShloMosaic Cert.Spec
open Cert.ReferenceIdeal.Read (val_main_v3 val_main_v18 val_main_v19 val_main_v21 val_main_v42 val_main_v43 val_main_v45 val_main_v66 val_main_v67 val_main_v69 val_main_v90 val_main_v96)

/-- "Every element of the array is finite", as one word. -/
def chk {s : Shape} {axes : List (Fin s.rank)} (hb : S_.BroadcastsInDim s (![] : Fin 0 → Fin s.rank)) (hr : s.ReducesTo axes S_)
    (x : FVec Ideal s .f32) : IVec S_ 1 :=
  Host.reduce IntOp.andi (cmpf .olt (Host.absf x) (broadcastInDim s ![] hb (constant S_ .f32 0x7F800000#32))) (constantI S_ 1 1#1) hr h_S_

theorem inf_eq : Ideal.ofBits .f32 0x7F800000#32 = (⊤ : EReal) := by
  simp [Ideal.ofBits, Ideal.ieee]

theorem bit_one (P : Prop) [Decidable P] (h : BitVec.ofBool (decide P) = 1#1) : P := by
  by_contra hp
  rw [decide_eq_false hp] at h
  exact absurd h (by decide)

theorem olt_one (a b : EReal) (h : Ideal.cmp .olt a b = 1#1) : a < b := by
  refine bit_one _ ?_
  rw [← h]
  rfl

/-- An extended real whose absolute value is below infinity is real. -/
theorem real_of_abs (a : EReal) (h : max a (-a) < ⊤) : ∃ r : ℝ, a = r := by
  have h1 : a ≠ ⊤ := fun e => by rw [e] at h; simp at h
  have h2 : a ≠ ⊥ := fun e => by rw [e] at h; simp at h
  exact ⟨a.toReal, (EReal.coe_toReal h1 h2).symm⟩

theorem real_of_chk {s : Shape} {axes : List (Fin s.rank)} (hb : S_.BroadcastsInDim s (![] : Fin 0 → Fin s.rank)) (hr : s.ReducesTo axes S_)
    (x : FVec Ideal s .f32) (h : chk hb hr x ix0 = 1#1) (i : s.Idx) : ∃ r : ℝ, x i = r := by
  haveI : Subsingleton S_.Idx := ⟨fun _ _ => funext fun a => a.elim0⟩
  have e := Host.reduce_andi_all _ _ hr h_S_ ix0 h i
  refine real_of_abs _ ?_
  have l : max (x i) (-(x i)) < Ideal.ofBits .f32 0x7F800000#32 := olt_one _ _ e
  rwa [inf_eq] at l

/-- A reduction by "or" from 0 that came out 1 met a 1. -/
theorem reduce_ori_one {s t : Shape} {axes : List (Fin s.rank)} (x : s.Idx → BitVec 1) (hr : s.ReducesTo axes t) (j : t.Idx)
    (e : Host.reduce IntOp.ori x (constantI S_ 1 0#1) hr h_S_ j = 1#1) : ∃ i, hr.drop i = j ∧ x i = 1#1 := by
  rw [Host.reduce_eq_foldl] at e
  have key : ∀ (l : List s.Idx) (w : BitVec 1), l.foldl (fun r n => IntOp.ori r (x n)) w = 1#1 → w = 1#1 ∨ ∃ i ∈ l, x i = 1#1 := by
    intro l
    induction l with
    | nil => exact fun w h => Or.inl h
    | cons a l ih =>
      intro w h
      rcases ih _ h with h | ⟨i, hi, h⟩
      · have : ∀ u v : BitVec 1, IntOp.ori u v = 1#1 → u = 1#1 ∨ v = 1#1 := by decide
        rcases this _ _ h with h | h
        · exact Or.inl h
        · exact Or.inr ⟨a, List.mem_cons_self .., h⟩
      · exact Or.inr ⟨i, List.mem_cons_of_mem _ hi, h⟩
  rcases key _ _ e with h | ⟨i, hi, h⟩
  · exact absurd h (by show ¬ (0#1 = 1#1); decide)
  · rw [List.mem_filter] at hi
    exact ⟨i, by simpa using hi.2, h⟩

/-- Where logit `k` is below logit `p` of a row. -/
def below (s : FVec Ideal S4096x10 .f32) : IVec S4096x10x10 1 :=
  cmpf .olt (broadcastInDim S4096x10x10 ![0, 1, 2] bcast_S4096x1x10_S4096x10x10_0_1_2 (broadcastInDim S4096x1x10 ![0, 2] bcast_S4096x10_S4096x1x10_0_2 s))
    (broadcastInDim S4096x10x10 ![0, 1, 2] bcast_S4096x10x1_S4096x10x10_0_1_2 (broadcastInDim S4096x10x1 ![0, 1] bcast_S4096x10_S4096x10x1_0_1 s))

/-- Where `k` is `p` or `q`, or its logit is below both of theirs. -/
def above (s : FVec Ideal S4096x10 .f32) : IVec S4096x10x10x10 1 :=
  ori (broadcastInDim S4096x10x10x10 ![0, 1, 2, 3] bcast_S1x10x10x10_S4096x10x10x10_0_1_2_3 (broadcastInDim S1x10x10x10 ![1, 2, 3] bcast_S10x10x10_S1x10x10x10_1_2_3
      (ori (cmpi .eq (iotaInDim S10x10x10 32 2) (iotaInDim S10x10x10 32 0)) (cmpi .eq (iotaInDim S10x10x10 32 2) (iotaInDim S10x10x10 32 1)))))
    (andi (broadcastInDim S4096x10x10x10 ![0, 1, 2, 3] bcast_S4096x10x1x10_S4096x10x10x10_0_1_2_3 (broadcastInDim S4096x10x1x10 ![0, 1, 3] bcast_S4096x10x10_S4096x10x1x10_0_1_3 (below s)))
      (broadcastInDim S4096x10x10x10 ![0, 1, 2, 3] bcast_S4096x1x10x10_S4096x10x10x10_0_1_2_3 (broadcastInDim S4096x1x10x10 ![0, 2, 3] bcast_S4096x10x10_S4096x1x10x10_0_2_3 (below s))))

/-- Where `p < q`. -/
def ordered : IVec S4096x10x10 1 :=
  broadcastInDim S4096x10x10 ![0, 1, 2] bcast_S1x10x10_S4096x10x10_0_1_2 (broadcastInDim S1x10x10 ![1, 2] bcast_S10x10_S1x10x10_1_2
    (shapeCast S10x10 (extractStridedSlice S10x10x1 ![0, 0, 0] (cmpi .slt (iotaInDim S10x10x10 32 0) (iotaInDim S10x10x10 32 1)) slices_S10x10x10_S10x10x1_0_0_0)
      shapeCasts_S10x10x1_S10x10))

/-- "In every row some two classes are above all the others", as one word. -/
def two (s : FVec Ideal S4096x10 .f32) : IVec S_ 1 :=
  Host.reduce IntOp.andi (Host.reduce IntOp.ori (andi (Host.reduce IntOp.andi (above s) (constantI S_ 1 1#1) reducesTo_S4096x10x10x10_S4096x10x10_d3 h_S_) ordered)
    (constantI S_ 1 0#1) reducesTo_S4096x10x10_S4096_d1_2 h_S_) (constantI S_ 1 1#1) reducesTo_S4096_S_d0 h_S_

theorem below_apply (s : FVec Ideal S4096x10 .f32) (b : Fin 4096) (p k : Fin 10) :
    below s (ix3 b p k) = Ideal.cmp .olt (s (ix2 b k)) (s (ix2 b p)) := by
  pointwise [below]

theorem above_apply (s : FVec Ideal S4096x10 .f32) (b : Fin 4096) (p q k : Fin 10) :
    above s (ix4 b p q k) = IntOp.ori (IntOp.ori (IntOp.cmpi .eq (BitVec.ofNat 32 k.val) (BitVec.ofNat 32 p.val)) (IntOp.cmpi .eq (BitVec.ofNat 32 k.val) (BitVec.ofNat 32 q.val)))
      (IntOp.andi (below s (ix3 b p k)) (below s (ix3 b q k))) := by
  unfold above
  generalize below s = u
  pointwise []

theorem ordered_apply (b : Fin 4096) (p q : Fin 10) :
    ordered (ix3 b p q) = IntOp.cmpi .slt (BitVec.ofNat 32 p.val) (BitVec.ofNat 32 q.val) := by
  pointwise [ordered]

theorem andi_split {s : Shape} (a b : IVec s 1) (i : s.Idx) (h : andi a b i = 1#1) : a i = 1#1 ∧ b i = 1#1 := IntOp.andi_eq_one.1 h

theorem two_dom (s : FVec Ideal S4096x10 .f32) (h : two s ix0 = 1#1) (b : Fin 4096) : ∃ p q : Fin 10, Dom (fun k => s (ix2 b k)) p q := by
  haveI : Subsingleton S_.Idx := ⟨fun _ _ => funext fun a => a.elim0⟩
  have e := Host.reduce_andi_all _ _ reducesTo_S4096_S_d0 h_S_ ix0 h (ix1 b)
  obtain ⟨i, hi, ei⟩ := reduce_ori_one _ reducesTo_S4096x10x10_S4096_d1_2 (ix1 b) e
  obtain ⟨b', p, q, rfl⟩ : ∃ (b' : Fin 4096) (p q : Fin 10), i = ix3 b' p q := ⟨i 0, i 1, i 2, by idx_ext⟩
  have hb : b' = b := by
    have v : (reducesTo_S4096x10x10_S4096_d1_2.drop (ix3 b' p q) 0 : Nat) = b'.val := Shape.ReducesTo.drop_apply_val _ _ 0
    rw [hi] at v
    exact Fin.ext v.symm
  subst hb
  obtain ⟨ea, eo⟩ := andi_split _ _ _ ei
  have w : ∀ p q : Fin 10, IntOp.cmpi .slt (BitVec.ofNat 32 p.val) (BitVec.ofNat 32 q.val) = 1#1 → p < q := by decide +kernel
  have w' : ∀ p q : Fin 10, IntOp.cmpi .eq (BitVec.ofNat 32 p.val) (BitVec.ofNat 32 q.val) = 1#1 → p = q := by decide +kernel
  rw [ordered_apply] at eo
  refine ⟨p, q, w p q eo, fun k => ?_⟩
  have ek := Host.reduce_andi_eq_one _ _ reducesTo_S4096x10x10x10_S4096x10x10_d3 h_S_ (ix3 b' p q) ea (ix4 b' p q k) (by
    funext a
    apply Fin.ext
    match a with
    | ⟨0, _⟩ => exact Shape.ReducesTo.drop_apply_val _ _ 0
    | ⟨1, _⟩ => exact Shape.ReducesTo.drop_apply_val _ _ 1
    | ⟨2, _⟩ => exact Shape.ReducesTo.drop_apply_val _ _ 2)
  rw [above_apply, below_apply, below_apply] at ek
  rcases IntOp.ori_eq_one.1 ek with ek | ek
  · rcases IntOp.ori_eq_one.1 ek with ek | ek
    · exact Or.inl (w' k p ek)
    · exact Or.inr (Or.inl (w' k q ek))
  · obtain ⟨u, v⟩ := IntOp.andi_eq_one.1 ek
    exact Or.inr (Or.inr ⟨olt_one _ _ u, olt_one _ _ v⟩)

variable (x0 : FVec Ideal S4096x1x28x28 .f32) (x1 : FVec Ideal S20x1x3x3 .f32) (x2 x3 x4 : FVec Ideal S20 .f32) (x5 : FVec Ideal S10x180 .f32) (x6 : FVec Ideal S10 .f32)
  (x7 : FVec Ideal S45x15x1x5x5 .f32) (x8 x9 x10 : FVec Ideal S45x15 .f32) (x11 : FVec Ideal S45x2x60 .f32) (x12 : FVec Ideal S45x2 .f32)

/-- "The input, the stage-2 weights and scales and the stage-1 logits are finite", as one word. -/
def fin : IVec S_ 1 :=
  andi (andi (andi (chk bcast_S_S4096x1x28x28 reducesTo_S4096x1x28x28_S_d0_1_2_3 x0)
    (chk bcast_S_S45x15x1x5x5 reducesTo_S45x15x1x5x5_S_d0_1_2_3_4 x7)) (chk bcast_S_S45x15 reducesTo_S45x15_S_d0_1 x9))
    (chk bcast_S_S4096x10 reducesTo_S4096x10_S_d0_1 (val_main_v96 (F := Ideal) x0 x1 x2 x3 x4 x5 x6))

theorem part4_eq : fn_part4 (F := Ideal) x0 x5 x6 x7 x9 (val_main_v90 (F := Ideal) x0 x1 x2 x3 x4)
    = andi (fin x0 x1 x2 x3 x4 x5 x6 x7 x9) (two (val_main_v96 (F := Ideal) x0 x1 x2 x3 x4 x5 x6)) := rfl

theorem part3_eq : fn_part3 (F := Ideal) x0 x2 x3 x4 x5 x6 x7 x9 (val_main_v66 (F := Ideal) x0 x1) (val_main_v67 (F := Ideal) x0) (val_main_v69 (F := Ideal) x1)
    = andi (fin x0 x1 x2 x3 x4 x5 x6 x7 x9) (two (val_main_v96 (F := Ideal) x0 x1 x2 x3 x4 x5 x6)) := part4_eq x0 x1 x2 x3 x4 x5 x6 x7 x9

theorem part2_eq : fn_part2 (F := Ideal) x0 x1 x2 x3 x4 x5 x6 x7 x9 (val_main_v3 (F := Ideal) x0) (val_main_v42 (F := Ideal) x0 x1) (val_main_v43 (F := Ideal) x0) (val_main_v45 (F := Ideal) x1)
    = andi (fin x0 x1 x2 x3 x4 x5 x6 x7 x9) (two (val_main_v96 (F := Ideal) x0 x1 x2 x3 x4 x5 x6)) := part3_eq x0 x1 x2 x3 x4 x5 x6 x7 x9

theorem part1_eq : fn_part1 (F := Ideal) x0 x1 x2 x3 x4 x5 x6 x7 x9 (val_main_v3 (F := Ideal) x0) (val_main_v18 (F := Ideal) x0 x1) (val_main_v19 (F := Ideal) x0) (val_main_v21 (F := Ideal) x1)
    = andi (fin x0 x1 x2 x3 x4 x5 x6 x7 x9) (two (val_main_v96 (F := Ideal) x0 x1 x2 x3 x4 x5 x6)) := part2_eq x0 x1 x2 x3 x4 x5 x6 x7 x9

theorem fn_eq : fn (F := Ideal) x0 x1 x2 x3 x4 x5 x6 x7 x8 x9 x10 x11 x12
    = andi (fin x0 x1 x2 x3 x4 x5 x6 x7 x9) (two (val_main_v96 (F := Ideal) x0 x1 x2 x3 x4 x5 x6)) :=
  part1_eq x0 x1 x2 x3 x4 x5 x6 x7 x9

variable (h : fn (F := Ideal) x0 x1 x2 x3 x4 x5 x6 x7 x8 x9 x10 x11 x12 = fun _ => 1#1)
include h

/-- The input and the stage-2 weights and scales are real. -/
theorem args_real : (∀ i, ∃ v : ℝ, x0 i = v) ∧ (∀ i, ∃ v : ℝ, x7 i = v) ∧ (∀ i, ∃ v : ℝ, x9 i = v) := by
  have e := congrFun ((fn_eq x0 x1 x2 x3 x4 x5 x6 x7 x8 x9 x10 x11 x12).symm.trans h) ix0
  obtain ⟨e, -⟩ := andi_split _ _ _ e
  obtain ⟨e, -⟩ := andi_split _ _ _ e
  obtain ⟨e, e9⟩ := andi_split _ _ _ e
  obtain ⟨e0, e7⟩ := andi_split _ _ _ e
  exact ⟨real_of_chk _ _ _ e0, real_of_chk _ _ _ e7, real_of_chk _ _ _ e9⟩

/-- In every row the two largest logits are those of two classes. -/
theorem row_dom (b : Fin 4096) : ∃ p q : Fin 10, Dom (s1 x0 x1 x2 x3 x4 x5 x6 b) p q := by
  have e := congrFun ((fn_eq x0 x1 x2 x3 x4 x5 x6 x7 x8 x9 x10 x11 x12).symm.trans h) ix0
  obtain ⟨p, q, D⟩ := two_dom _ (andi_split _ _ _ e).2 b
  refine ⟨p, q, ?_⟩
  rwa [funext fun k => Cert.RVal.v96_eq x0 x1 x2 x3 x4 x5 x6 b k] at D

/-- Stage 1's logits are real. -/
theorem s1_real (b : Fin 4096) (o : Fin 10) : ∃ v : ℝ, s1 x0 x1 x2 x3 x4 x5 x6 b o = v := by
  have e := congrFun ((fn_eq x0 x1 x2 x3 x4 x5 x6 x7 x8 x9 x10 x11 x12).symm.trans h) ix0
  obtain ⟨e, -⟩ := andi_split _ _ _ e
  obtain ⟨v, hv⟩ := real_of_chk _ _ _ (andi_split _ _ _ e).2 (ix2 b o)
  exact ⟨v, (Cert.RVal.v96_eq x0 x1 x2 x3 x4 x5 x6 b o).symm.trans hv⟩

end Cert.PreVal
-- ==== Proof.Algebraic.lean ====
/- The algebraic claim: the idealized kernel and the reference leave the same three arrays. -/
module

public import proofs.«01_k».proof.Defs
public import proofs.«01_k».proof.Proof.KBlocks
public import proofs.«01_k».proof.Proof.RefStage2
public import proofs.«01_k».proof.Proof.Pre
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem Cert.Spec

/-- A function of seven arguments takes equal values at equal arguments. -/
theorem seven {α0 α1 α2 α3 α4 α5 α6 β : Type} (f : α0 → α1 → α2 → α3 → α4 → α5 → α6 → β)
    {x0 y0 : α0} {x1 y1 : α1} {x2 y2 : α2} {x3 y3 : α3} {x4 y4 : α4} {x5 y5 : α5} {x6 y6 : α6}
    (e0 : x0 = y0) (e1 : x1 = y1) (e2 : x2 = y2) (e3 : x3 = y3) (e4 : x4 = y4) (e5 : x5 = y5) (e6 : x6 = y6) :
    f x0 x1 x2 x3 x4 x5 x6 = f y0 y1 y2 y3 y4 y5 y6 := by
  rw [e0, e1, e2, e3, e4, e5, e6]

/-- A function of thirteen arguments takes equal values at equal arguments. -/
theorem thirteen {α0 α1 α2 α3 α4 α5 α6 α7 α8 α9 α10 α11 α12 β : Type} (f : α0 → α1 → α2 → α3 → α4 → α5 → α6 → α7 → α8 → α9 → α10 → α11 → α12 → β)
    {x0 y0 : α0} {x1 y1 : α1} {x2 y2 : α2} {x3 y3 : α3} {x4 y4 : α4} {x5 y5 : α5} {x6 y6 : α6} {x7 y7 : α7} {x8 y8 : α8} {x9 y9 : α9} {x10 y10 : α10} {x11 y11 : α11} {x12 y12 : α12}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) :
    f x0 x1 x2 x3 x4 x5 x6 x7 x8 x9 x10 x11 x12 = f y0 y1 y2 y3 y4 y5 y6 y7 y8 y9 y10 y11 y12 := by
  rw [e0, e1, e2, e3, e4, e5, e6, e7, e8, e9, e10, e11, e12]

/-- The reference's three results are the kernel's functions of the same arguments. -/
theorem reference_results (m : (ℓ : Loc Cert.KernelIdeal.nD Cert.KernelIdeal.τ Cert.KernelIdeal.sig) → Buf (Elt Ideal) ℓ) (c : Dev Cert.KernelIdeal.nD)
    (p q : Fin 4096 → Fin 10)
    (D : ∀ b, Dom (s1 (Cert.KVal.a0 m c) (Cert.KVal.a1 m c) (Cert.KVal.a2 m c) (Cert.KVal.a3 m c) (Cert.KVal.a4 m c) (Cert.KVal.a5 m c) (Cert.KVal.a6 m c) b) (p b) (q b))
    (hs : ∀ b o, ∃ v : ℝ, s1 (Cert.KVal.a0 m c) (Cert.KVal.a1 m c) (Cert.KVal.a2 m c) (Cert.KVal.a3 m c) (Cert.KVal.a4 m c) (Cert.KVal.a5 m c) (Cert.KVal.a6 m c) b o = v) :
    Cert.ReferenceIdeal.Read.val_main_v96 (F := Ideal) (Cert.KVal.a0 m c) (Cert.KVal.a1 m c) (Cert.KVal.a2 m c) (Cert.KVal.a3 m c) (Cert.KVal.a4 m c) (Cert.KVal.a5 m c) (Cert.KVal.a6 m c)
        = Cert.KVal.G11 m c
    ∧ Cert.ReferenceIdeal.Read.val_main_v432 (F := Ideal) (Cert.KVal.a0 m c) (Cert.KVal.a1 m c) (Cert.KVal.a2 m c) (Cert.KVal.a3 m c) (Cert.KVal.a4 m c) (Cert.KVal.a5 m c) (Cert.KVal.a6 m c)
        (Cert.KVal.a7 m c) (Cert.KVal.a8 m c) (Cert.KVal.a9 m c) (Cert.KVal.a10 m c) (Cert.KVal.a11 m c) (Cert.KVal.a12 m c)
        = Cert.KVal.G12 m c p q (fun b => (D b).1)
    ∧ Cert.ReferenceIdeal.Read.val_main_v100 (F := Ideal) (Cert.KVal.a0 m c) (Cert.KVal.a1 m c) (Cert.KVal.a2 m c) (Cert.KVal.a3 m c) (Cert.KVal.a4 m c) (Cert.KVal.a5 m c) (Cert.KVal.a6 m c)
        = Cert.KVal.G13 p q := by
  refine ⟨?_, ?_, ?_⟩
  · funext i
    obtain ⟨b, o, rfl⟩ : ∃ (b : Fin 4096) (o : Fin 10), i = ix2 b o := ⟨i 0, i 1, by idx_ext⟩
    exact Cert.RVal.v96_eq _ _ _ _ _ _ _ b o
  · funext i
    obtain ⟨b, k, rfl⟩ : ∃ (b : Fin 4096) (k : Fin 10), i = ix2 b k := ⟨i 0, i 1, by idx_ext⟩
    exact Cert.RVal.v432_eq _ _ _ _ _ _ _ _ _ _ _ _ _ b (hs b) (p b) (q b) (D b) k
  · funext i
    obtain ⟨b, d, rfl⟩ : ∃ (b : Fin 4096) (d : Fin 2), i = ix2 b d := ⟨i 0, i 1, by idx_ext⟩
    have h := Cert.RVal.v100_eq (Cert.KVal.a0 m c) (Cert.KVal.a1 m c) (Cert.KVal.a2 m c) (Cert.KVal.a3 m c) (Cert.KVal.a4 m c) (Cert.KVal.a5 m c) (Cert.KVal.a6 m c) b (hs b) (p b) (q b) (D b)
    fin_cases d
    · exact h.1
    · exact h.2

/-- Under the precondition the two programs' results are equal. -/
theorem algebraic : Cert.algebraic_KernelIdeal_ReferenceIdeal_pre_finite_top_two := by
  intro m g m' g' pre agree
  have hD := fun c b => Cert.PreVal.row_dom _ _ _ _ _ _ _ _ _ _ _ _ _ (pre c) b
  have hs := fun c b o => Cert.PreVal.s1_real _ _ _ _ _ _ _ _ _ _ _ _ _ (pre c) b o
  choose p q D using hD
  have bot : ∀ c b o, s1 (Cert.KVal.a0 m c) (Cert.KVal.a1 m c) (Cert.KVal.a2 m c) (Cert.KVal.a3 m c) (Cert.KVal.a4 m c) (Cert.KVal.a5 m c) (Cert.KVal.a6 m c) b o ≠ ⊥ := fun c b o => by
    obtain ⟨v, hv⟩ := hs c b o
    intro e
    exact EReal.coe_ne_bot v (hv.symm.trans e)
  refine ⟨fun c => Cert.KVal.G11 m c, fun c => Cert.KVal.G12 m c (p c) (q c) fun b => (D c b).1, fun c => Cert.KVal.G13 (p c) (q c), ?_, ?_⟩
  · refine (θ_run Cert.KernelIdeal.defs _ _).mono (fun r h c => ?_) (Cert.KernelIdeal.Value.run_blocks m g)
    obtain ⟨h0, h1, h2, hk⟩ := h c
    obtain ⟨f0, f7, f9⟩ := Cert.PreVal.args_real _ _ _ _ _ _ _ _ _ _ _ _ _ (pre c)
    exact ⟨h0.trans (Cert.KVal.final11 m c), h1.trans (Cert.KVal.final12 m c (p c) (q c) (D c) (bot c) f0 f7 f9),
      h2.trans (Cert.KVal.final13 m c (p c) (q c) (D c) (bot c)), hk⟩
  · refine (θ_run Cert.ReferenceIdeal.defs _ _).mono (fun r h c => ?_) (Cert.ReferenceIdeal.Value.run (F := Ideal) m' g')
    obtain ⟨h0, h1, h2, hk⟩ := h c
    obtain ⟨e0, e1, e2, e3, e4, e5, e6, e7, e8, e9, e10, e11, e12⟩ := agree c
    obtain ⟨r0, r1, r2⟩ := reference_results m c (p c) (q c) (D c) (hs c)
    have t0 := Cert.ReferenceIdeal.Read.val_main_v96_eq (StableHlo.launchContents m' c)
    have t1 := Cert.ReferenceIdeal.Read.val_main_v432_eq (StableHlo.launchContents m' c)
    have t2 := Cert.ReferenceIdeal.Read.val_main_v100_eq (StableHlo.launchContents m' c)
    exact ⟨(h0.trans t0).trans ((seven _ e0 e1 e2 e3 e4 e5 e6).trans r0),
      (h1.trans t1).trans ((thirteen _ e0 e1 e2 e3 e4 e5 e6 e7 e8 e9 e10 e11 e12).trans r1),
      (h2.trans t2).trans ((seven _ e0 e1 e2 e3 e4 e5 e6).trans r2), hk⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_top_two
public import proofs.«01_k».proof.Proof.Gen.KernelIdeal.Value
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_finite_top_two.Gen.facts,
   frame_kernel, frame_ideal, frame_ideal_pre, frame_reference, frame_reference_pre, preserves, algebraic⟩

end Cert.Proof

end
